-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_scalar_memory [hPre_finite_and_scalar_memory : Cert.Pre_finite_and_scalar_memory.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_scalar_memory.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_scalar_memory [hPre_finite_and_scalar_memory : Cert.Pre_finite_and_scalar_memory.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_scalar_memory.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_and_scalar_memory [hKernelIdeal : Cert.KernelIdeal.Facts] [hPre_finite_and_scalar_memory : Cert.Pre_finite_and_scalar_memory.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_scalar_memory m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_and_scalar_memory [hReferenceIdeal : Cert.ReferenceIdeal.Facts] [hPre_finite_and_scalar_memory : Cert.Pre_finite_and_scalar_memory.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_scalar_memory m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_and_scalar_memory [hKernelIdeal : Cert.KernelIdeal.Facts] [hReferenceIdeal : Cert.ReferenceIdeal.Facts] [hPre_finite_and_scalar_memory : Cert.Pre_finite_and_scalar_memory.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_scalar_memory m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_and_scalar_memory : Cert.Pre_finite_and_scalar_memory.Facts),
    quiescent_Kernel (hKernel := hKernel)
    ∧ quiescent_KernelIdeal (hKernelIdeal := hKernelIdeal)
    ∧ quiescent_KernelIdeal_pre_finite_and_scalar_memory (hKernelIdeal := hKernelIdeal) (hPre_finite_and_scalar_memory := hPre_finite_and_scalar_memory)
    ∧ quiescent_ReferenceIdeal (hReferenceIdeal := hReferenceIdeal)
    ∧ quiescent_ReferenceIdeal_pre_finite_and_scalar_memory (hReferenceIdeal := hReferenceIdeal) (hPre_finite_and_scalar_memory := hPre_finite_and_scalar_memory)
    ∧ preserves_Kernel_KernelIdeal
    ∧ algebraic_KernelIdeal_ReferenceIdeal_pre_finite_and_scalar_memory (hKernelIdeal := hKernelIdeal) (hReferenceIdeal := hReferenceIdeal) (hPre_finite_and_scalar_memory := hPre_finite_and_scalar_memory)
-- ==== Pre_finite_and_scalar_memory.lean ====
abbrev S2x2048x1024 : Shape := ⟨3, ![2, 2048, 1024]⟩
abbrev S1024x3072 : Shape := ⟨2, ![1024, 3072]⟩
abbrev S3072 : Shape := ⟨1, ![3072]⟩
abbrev S1024x64 : Shape := ⟨2, ![1024, 64]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S16x6x6 : Shape := ⟨3, ![16, 6, 6]⟩
abbrev S1x1x1 : Shape := ⟨3, ![1, 1, 1]⟩
abbrev S_ : Shape := ⟨0, ![]⟩

class Facts : Prop where
  slices_S16x6x6_S1x1x1_0_0_0 : S16x6x6.Slices ![0, 0, 0] S1x1x1
  shapeCasts_S1x1x1_S_ : S1x1x1.ShapeCasts S_
  bcast_S_S16x6x6 : S_.BroadcastsInDim S16x6x6 (![] : Fin 0 → Fin S16x6x6.rank)
  reducesTo_S16x6x6_S_d0_1_2 : S16x6x6.ReducesTo [0, 1, 2] S_
  h_S_ : 0 < S_.numel
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_

variable [Facts]

def fn_part1 {F : FTy → Type} [FloatOps F] (main_arg2 : FVec F S3072 .f32) (main_v3 : FVec F S_ .f32) (main_v9 : IVec S_ 1) (main_v13 : IVec S_ 1) (main_v17 : IVec S_ 1) : IVec S_ 1 :=
  let main_v18 : IVec S_ 1 := andi main_v13 main_v17
  let main_v19 : FVec F S3072 .f32 := Host.absf main_arg2
  let main_cst_4 : FVec F S_ .f32 := constant S_ .f32 0x7F800000#32
  let main_v20 : FVec F S3072 .f32 := broadcastInDim S3072 ![] bcast_S_S3072 main_cst_4
  let main_v21 : IVec S3072 1 := cmpf .olt main_v19 main_v20
  let main_c_5 : IVec S_ 1 := constantI S_ 1 1#1
  let main_v22 : IVec S_ 1 := (fun x v => Host.reduce IntOp.andi x v reducesTo_S3072_S_d0 h_S_) main_v21 main_c_5
  let main_v23 : IVec S_ 1 := andi main_v18 main_v22
  let main_v24 : FVec F S_ .f32 := Host.absf main_v3
  let main_cst_6 : FVec F S_ .f32 := constant S_ .f32 0x7F800000#32
  let main_v25 : IVec S_ 1 := cmpf .olt main_v24 main_cst_6
  let main_v26 : IVec S_ 1 := andi main_v23 main_v25
  let main_v27 : IVec S_ 1 := andi main_v26 main_v9
  main_v27

def fn {F : FTy → Type} [FloatOps F] (main_arg0 : FVec F S2x2048x1024 .f32) (main_arg1 : FVec F S1024x3072 .f32) (main_arg2 : FVec F S3072 .f32) (main_arg3 : FVec F S1024x64 .f32) (main_arg4 : FVec F S1024x64 .f32) (main_arg5 : FVec F S1024x64 .f32) (main_arg6 : FVec F S1024x64 .f32) (main_arg7 : FVec F S1024x1024 .f32) (main_arg8 : FVec F S1024 .f32) (main_arg9 : FVec F S1024x16 .f32) (main_arg10 : FVec F S16 .f32) (main_arg11 : FVec F S16 .f32) (main_arg12 : FVec F S1024x1024 .f32) (main_arg13 : FVec F S1024 .f32) (main_arg14 : FVec F S16x6x6 .f32) : IVec S_ 1 :=
  let main_v0 : IVec S16x6x6 32 := iotaInDim S16x6x6 32 1
  let main_v1 : IVec S16x6x6 32 := iotaInDim S16x6x6 32 2
  let main_v2 : FVec F S1x1x1 .f32 := (extractStridedSlice S1x1x1 ![0, 0, 0] · slices_S16x6x6_S1x1x1_0_0_0) main_arg14
  let main_v3 : FVec F S_ .f32 := shapeCast S_ main_v2 shapeCasts_S1x1x1_S_
  let main_v4 : IVec S16x6x6 1 := cmpi .eq main_v0 main_v1
  let main_v5 : FVec F S16x6x6 .f32 := broadcastInDim S16x6x6 ![] bcast_S_S16x6x6 main_v3
  let main_cst : FVec F S_ .f32 := constant S_ .f32 0x00000000#32
  let main_v6 : FVec F S16x6x6 .f32 := broadcastInDim S16x6x6 ![] bcast_S_S16x6x6 main_cst
  let main_v7 : FVec F S16x6x6 .f32 := select main_v4 main_v5 main_v6
  let main_v8 : IVec S16x6x6 1 := cmpf .oeq main_arg14 main_v7
  let main_c : IVec S_ 1 := constantI S_ 1 1#1
  let main_v9 : IVec S_ 1 := (fun x v => Host.reduce IntOp.andi x v reducesTo_S16x6x6_S_d0_1_2 h_S_) main_v8 main_c
  let main_v10 : FVec F S2x2048x1024 .f32 := Host.absf main_arg0
  let main_cst_0 : FVec F S_ .f32 := constant S_ .f32 0x7F800000#32
  let main_v11 : FVec F S2x2048x1024 .f32 := broadcastInDim S2x2048x1024 ![] bcast_S_S2x2048x1024 main_cst_0
  let main_v12 : IVec S2x2048x1024 1 := cmpf .olt main_v10 main_v11
  let main_c_1 : IVec S_ 1 := constantI S_ 1 1#1
  let main_v13 : IVec S_ 1 := (fun x v => Host.reduce IntOp.andi x v reducesTo_S2x2048x1024_S_d0_1_2 h_S_) main_v12 main_c_1
  let main_v14 : FVec F S1024x3072 .f32 := Host.absf main_arg1
  let main_cst_2 : FVec F S_ .f32 := constant S_ .f32 0x7F800000#32
  let main_v15 : FVec F S1024x3072 .f32 := broadcastInDim S1024x3072 ![] bcast_S_S1024x3072 main_cst_2
  let main_v16 : IVec S1024x3072 1 := cmpf .olt main_v14 main_v15
  let main_c_3 : IVec S_ 1 := constantI S_ 1 1#1
  let main_v17 : IVec S_ 1 := (fun x v => Host.reduce IntOp.andi x v reducesTo_S1024x3072_S_d0_1 h_S_) main_v16 main_c_3
  fn_part1 (F := F) main_arg2 main_v3 main_v9 main_v13 main_v17
-- ==== Kernel.lean ====
abbrev S2x2048x1024 : Shape := ⟨3, ![2, 2048, 1024]⟩
abbrev S1024x3072 : Shape := ⟨2, ![1024, 3072]⟩
abbrev S3072 : Shape := ⟨1, ![3072]⟩
abbrev S1024x64 : Shape := ⟨2, ![1024, 64]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S16x6x6 : Shape := ⟨3, ![16, 6, 6]⟩
abbrev S4096x1024 : Shape := ⟨2, ![4096, 1024]⟩
abbrev S1024x272 : Shape := ⟨2, ![1024, 272]⟩
abbrev S_ : Shape := ⟨0, ![]⟩
abbrev S256 : Shape := ⟨1, ![256]⟩
abbrev S272 : Shape := ⟨1, ![272]⟩
abbrev S1x272 : Shape := ⟨2, ![1, 272]⟩
abbrev S1x3072 : Shape := ⟨2, ![1, 3072]⟩
abbrev S1x1024 : Shape := ⟨2, ![1, 1024]⟩
abbrev S4096x272 : Shape := ⟨2, ![4096, 272]⟩
abbrev S256x1024 : Shape := ⟨2, ![256, 1024]⟩
abbrev S256x272 : Shape := ⟨2, ![256, 272]⟩
abbrev S256x3072 : Shape := ⟨2, ![256, 3072]⟩
abbrev S2x2048x16x1x64 : Shape := ⟨5, ![2, 2048, 16, 1, 64]⟩
abbrev S1x2048x1x1x64 : Shape := ⟨5, ![1, 2048, 1, 1, 64]⟩
abbrev S2048x64 : Shape := ⟨2, ![2048, 64]⟩
abbrev S1x512x1x1x64 : Shape := ⟨5, ![1, 512, 1, 1, 64]⟩
abbrev S512x64 : Shape := ⟨2, ![512, 64]⟩
abbrev S512x1 : Shape := ⟨2, ![512, 1]⟩
abbrev S512x512 : Shape := ⟨2, ![512, 512]⟩
abbrev S512 : Shape := ⟨1, ![512]⟩
abbrev S4096x64 : Shape := ⟨2, ![4096, 64]⟩
abbrev S2x2048x16x4 : Shape := ⟨4, ![2, 2048, 16, 4]⟩
abbrev S2x1x16x4 : Shape := ⟨4, ![2, 1, 16, 4]⟩
abbrev S2x2047x16x4 : Shape := ⟨4, ![2, 2047, 16, 4]⟩
abbrev S4096x16 : Shape := ⟨2, ![4096, 16]⟩
abbrev S2x2048x16x8 : Shape := ⟨4, ![2, 2048, 16, 8]⟩
abbrev S2x16x8x2048 : Shape := ⟨4, ![2, 16, 8, 2048]⟩
abbrev S2x128x2048 : Shape := ⟨3, ![2, 128, 2048]⟩
abbrev S1x128x2048 : Shape := ⟨3, ![1, 128, 2048]⟩
abbrev S128x2048 : Shape := ⟨2, ![128, 2048]⟩
abbrev S16x8x2048 : Shape := ⟨3, ![16, 8, 2048]⟩
abbrev S16x1x2048 : Shape := ⟨3, ![16, 1, 2048]⟩
abbrev S16x2048 : Shape := ⟨2, ![16, 2048]⟩
abbrev S1x1x1 : Shape := ⟨3, ![1, 1, 1]⟩
abbrev S1x1 : Shape := ⟨2, ![1, 1]⟩
abbrev S32x8x2048 : Shape := ⟨3, ![32, 8, 2048]⟩
abbrev S32x1x2048 : Shape := ⟨3, ![32, 1, 2048]⟩
abbrev S1x8x2048 : Shape := ⟨3, ![1, 8, 2048]⟩
abbrev S1x1x2048 : Shape := ⟨3, ![1, 1, 2048]⟩
abbrev S8x2048 : Shape := ⟨2, ![8, 2048]⟩
abbrev S128x128 : Shape := ⟨2, ![128, 128]⟩
abbrev S1x128 : Shape := ⟨2, ![1, 128]⟩
abbrev S8x8 : Shape := ⟨2, ![8, 8]⟩
abbrev S8x128 : Shape := ⟨2, ![8, 128]⟩
abbrev S128 : Shape := ⟨1, ![128]⟩
abbrev S1x1x128 : Shape := ⟨3, ![1, 1, 128]⟩
abbrev S2x16x2048 : Shape := ⟨3, ![2, 16, 2048]⟩
abbrev S2x2048x16 : Shape := ⟨3, ![2, 2048, 16]⟩
abbrev S1x16 : Shape := ⟨2, ![1, 16]⟩
abbrev S256x16 : Shape := ⟨2, ![256, 16]⟩
abbrev S256x1 : Shape := ⟨2, ![256, 1]⟩

abbrev nBuf : Space → Nat
  | .hbm => 74
  | .vmem => 53
  | .smem => 1
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S1024x64, .f32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S1024x1024, .f32⟩
  | .hbm, ⟨8, _⟩ => ⟨S1024, .f32⟩
  | .hbm, ⟨9, _⟩ => ⟨S1024x16, .f32⟩
  | .hbm, ⟨10, _⟩ => ⟨S16, .f32⟩
  | .hbm, ⟨11, _⟩ => ⟨S16, .f32⟩
  | .hbm, ⟨12, _⟩ => ⟨S1024x1024, .f32⟩
  | .hbm, ⟨13, _⟩ => ⟨S1024, .f32⟩
  | .hbm, ⟨14, _⟩ => ⟨S16x6x6, .f32⟩
  | .hbm, ⟨15, _⟩ => ⟨S4096x1024, .f32⟩
  | .hbm, ⟨16, _⟩ => ⟨S4096x1024, .bf16⟩
  | .hbm, ⟨17, _⟩ => ⟨S1024x272, .f32⟩
  | .hbm, ⟨18, _⟩ => ⟨S_, .f32⟩
  | .hbm, ⟨19, _⟩ => ⟨S256, .f32⟩
  | .hbm, ⟨20, _⟩ => ⟨S272, .f32⟩
  | .hbm, ⟨21, _⟩ => ⟨S1x272, .f32⟩
  | .hbm, ⟨22, _⟩ => ⟨S1024x3072, .bf16⟩
  | .hbm, ⟨23, _⟩ => ⟨S1x3072, .f32⟩
  | .hbm, ⟨24, _⟩ => ⟨S1024x272, .bf16⟩
  | .hbm, ⟨25, _⟩ => ⟨S1024x1024, .bf16⟩
  | .hbm, ⟨26, _⟩ => ⟨S1x1024, .f32⟩
  | .hbm, ⟨27, _⟩ => ⟨S4096x1024, .bf16⟩
  | .hbm, ⟨28, _⟩ => ⟨S4096x1024, .bf16⟩
  | .hbm, ⟨29, _⟩ => ⟨S4096x1024, .bf16⟩
  | .hbm, ⟨30, _⟩ => ⟨S4096x272, .f32⟩
  | .hbm, ⟨31, _⟩ => ⟨S4096x1024, .f32⟩
  | .hbm, ⟨32, _⟩ => ⟨S2x2048x16x1x64, .bf16⟩
  | .hbm, ⟨33, _⟩ => ⟨S2x2048x16x1x64, .bf16⟩
  | .hbm, ⟨34, _⟩ => ⟨S2x2048x16x1x64, .bf16⟩
  | .hbm, ⟨35, _⟩ => ⟨S2x2048x16x1x64, .f32⟩
  | .hbm, ⟨36, _⟩ => ⟨S4096x1024, .f32⟩
  | .hbm, ⟨37, _⟩ => ⟨S4096x64, .f32⟩
  | .hbm, ⟨38, _⟩ => ⟨S2x2048x16x4, .f32⟩
  | .hbm, ⟨39, _⟩ => ⟨S_, .f32⟩
  | .hbm, ⟨40, _⟩ => ⟨S2x1x16x4, .f32⟩
  | .hbm, ⟨41, _⟩ => ⟨S2x2047x16x4, .f32⟩
  | .hbm, ⟨42, _⟩ => ⟨S2x2048x16x4, .f32⟩
  | .hbm, ⟨43, _⟩ => ⟨S4096x64, .f32⟩
  | .hbm, ⟨44, _⟩ => ⟨S2x2048x16x4, .f32⟩
  | .hbm, ⟨45, _⟩ => ⟨S4096x64, .f32⟩
  | .hbm, ⟨46, _⟩ => ⟨S2x2048x16x4, .f32⟩
  | .hbm, ⟨47, _⟩ => ⟨S4096x64, .f32⟩
  | .hbm, ⟨48, _⟩ => ⟨S2x2048x16x4, .f32⟩
  | .hbm, ⟨49, _⟩ => ⟨S4096x16, .f32⟩
  | .hbm, ⟨50, _⟩ => ⟨S2x2048x16x8, .f32⟩
  | .hbm, ⟨51, _⟩ => ⟨S2x16x8x2048, .f32⟩
  | .hbm, ⟨52, _⟩ => ⟨S2x128x2048, .f32⟩
  | .hbm, ⟨53, _⟩ => ⟨S2x2048x16x8, .f32⟩
  | .hbm, ⟨54, _⟩ => ⟨S2x16x8x2048, .f32⟩
  | .hbm, ⟨55, _⟩ => ⟨S2x128x2048, .f32⟩
  | .hbm, ⟨56, _⟩ => ⟨S2x128x2048, .f32⟩
  | .hbm, ⟨57, _⟩ => ⟨S2x128x2048, .f32⟩
  | .hbm, ⟨58, _⟩ => ⟨S1x1x1, .f32⟩
  | .hbm, ⟨59, _⟩ => ⟨S_, .f32⟩
  | .hbm, ⟨60, _⟩ => ⟨S_, .bf16⟩
  | .hbm, ⟨61, _⟩ => ⟨S_, .f32⟩
  | .hbm, ⟨62, _⟩ => ⟨S_, .f32⟩
  | .hbm, ⟨63, _⟩ => ⟨S1x1, .f32⟩
  | .hbm, ⟨64, _⟩ => ⟨S32x8x2048, .f32⟩
  | .hbm, ⟨65, _⟩ => ⟨S32x8x2048, .f32⟩
  | .hbm, ⟨66, _⟩ => ⟨S32x1x2048, .f32⟩
  | .hbm, ⟨67, _⟩ => ⟨S2x16x2048, .f32⟩
  | .hbm, ⟨68, _⟩ => ⟨S2x2048x16, .f32⟩
  | .hbm, ⟨69, _⟩ => ⟨S4096x16, .f32⟩
  | .hbm, ⟨70, _⟩ => ⟨S1x16, .f32⟩
  | .hbm, ⟨71, _⟩ => ⟨S1x1024, .f32⟩
  | .hbm, ⟨72, _⟩ => ⟨S4096x1024, .f32⟩
  | .hbm, ⟨73, _⟩ => ⟨S2x2048x1024, .f32⟩
  | .local _ .vmem, ⟨0, _⟩ => ⟨S256x1024, .bf16⟩
  | .local _ .vmem, ⟨1, _⟩ => ⟨S256x1024, .bf16⟩
  | .local _ .vmem, ⟨2, _⟩ => ⟨S1024x3072, .bf16⟩
  | .local _ .vmem, ⟨3, _⟩ => ⟨S1x3072, .f32⟩
  | .local _ .vmem, ⟨4, _⟩ => ⟨S1024x272, .bf16⟩
  | .local _ .vmem, ⟨5, _⟩ => ⟨S1x272, .f32⟩
  | .local _ .vmem, ⟨6, _⟩ => ⟨S1024x1024, .bf16⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x272, .f32⟩
  | .local _ .vmem, ⟨15, _⟩ => ⟨S256x272, .f32⟩
  | .local _ .vmem, ⟨16, _⟩ => ⟨S256x1024, .f32⟩
  | .local _ .vmem, ⟨17, _⟩ => ⟨S256x1024, .f32⟩
  | .local _ .vmem, ⟨18, _⟩ => ⟨S1x2048x1x1x64, .bf16⟩
  | .local _ .vmem, ⟨19, _⟩ => ⟨S1x2048x1x1x64, .bf16⟩
  | .local _ .vmem, ⟨20, _⟩ => ⟨S1x2048x1x1x64, .bf16⟩
  | .local _ .vmem, ⟨21, _⟩ => ⟨S1x2048x1x1x64, .bf16⟩
  | .local _ .vmem, ⟨22, _⟩ => ⟨S1x2048x1x1x64, .bf16⟩
  | .local _ .vmem, ⟨23, _⟩ => ⟨S1x2048x1x1x64, .bf16⟩
  | .local _ .vmem, ⟨24, _⟩ => ⟨S1x2048x1x1x64, .f32⟩
  | .local _ .vmem, ⟨25, _⟩ => ⟨S1x2048x1x1x64, .f32⟩
  | .local _ .vmem, ⟨26, _⟩ => ⟨S1x128x2048, .f32⟩
  | .local _ .vmem, ⟨27, _⟩ => ⟨S1x128x2048, .f32⟩
  | .local _ .vmem, ⟨28, _⟩ => ⟨S1x128x2048, .f32⟩
  | .local _ .vmem, ⟨29, _⟩ => ⟨S1x128x2048, .f32⟩
  | .local _ .vmem, ⟨30, _⟩ => ⟨S1x128x2048, .f32⟩
  | .local _ .vmem, ⟨31, _⟩ => ⟨S1x128x2048, .f32⟩
  | .local _ .vmem, ⟨32, _⟩ => ⟨S1x128x2048, .f32⟩
  | .local _ .vmem, ⟨33, _⟩ => ⟨S1x128x2048, .f32⟩
  | .local _ .vmem, ⟨34, _⟩ => ⟨S1x8x2048, .f32⟩
  | .local _ .vmem, ⟨35, _⟩ => ⟨S1x8x2048, .f32⟩
  | .local _ .vmem, ⟨36, _⟩ => ⟨S1x8x2048, .f32⟩
  | .local _ .vmem, ⟨37, _⟩ => ⟨S1x8x2048, .f32⟩
  | .local _ .vmem, ⟨38, _⟩ => ⟨S1x1x2048, .f32⟩
  | .local _ .vmem, ⟨39, _⟩ => ⟨S1x1x2048, .f32⟩
  | .local _ .vmem, ⟨40, _⟩ => ⟨S256x1024, .f32⟩
  | .local _ .vmem, ⟨41, _⟩ => ⟨S256x1024, .f32⟩
  | .local _ .vmem, ⟨42, _⟩ => ⟨S256x1024, .f32⟩
  | .local _ .vmem, ⟨43, _⟩ => ⟨S256x1024, .f32⟩
  | .local _ .vmem, ⟨44, _⟩ => ⟨S256x16, .f32⟩
  | .local _ .vmem, ⟨45, _⟩ => ⟨S256x16, .f32⟩
  | .local _ .vmem, ⟨46, _⟩ => ⟨S256x16, .f32⟩
  | .local _ .vmem, ⟨47, _⟩ => ⟨S256x16, .f32⟩
  | .local _ .vmem, ⟨48, _⟩ => ⟨S1x16, .f32⟩
  | .local _ .vmem, ⟨49, _⟩ => ⟨S1024x1024, .f32⟩
  | .local _ .vmem, ⟨50, _⟩ => ⟨S1x1024, .f32⟩
  | .local _ .vmem, ⟨51, _⟩ => ⟨S256x1024, .f32⟩
  | .local _ .vmem, ⟨52, _⟩ => ⟨S256x1024, .f32⟩
  | .local _ .smem, ⟨0, _⟩ => ⟨S1x1, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .smem, ⟨0, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev main_v11_2 : Ref sig .tc := ⟨.hbm, 29, rfl⟩
abbrev main_v11_3 : Ref sig .tc := ⟨.hbm, 30, rfl⟩
abbrev main_v11_4 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35_0 : Ref sig .tc := ⟨.hbm, 56, rfl⟩
abbrev main_v35_1 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg3_0 : Ref sig .tc := ⟨.vmem, 38, rfl⟩
abbrev cc3_stg3_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg3_1 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_stg7_0 : Ref sig .tc := ⟨.vmem, 51, rfl⟩
abbrev cc4_stg7_1 : Ref sig .tc := ⟨.vmem, 52, rfl⟩
abbrev cc3_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem3_0 : DmaSem sig := 39
abbrev cc3_sem3_1 : DmaSem sig := 40
abbrev cc4_sem0_0 : DmaSem sig := 41
abbrev cc4_sem0_1 : DmaSem sig := 42
abbrev cc4_sem1_0 : DmaSem sig := 43
abbrev cc4_sem1_1 : DmaSem sig := 44
abbrev cc4_sem2_0 : DmaSem sig := 45
abbrev cc4_sem2_1 : DmaSem sig := 46
abbrev cc4_sem3_0 : DmaSem sig := 47
abbrev cc4_sem3_1 : DmaSem sig := 48
abbrev cc4_sem4_0 : DmaSem sig := 49
abbrev cc4_sem5_0 : DmaSem sig := 50
abbrev cc4_sem6_0 : DmaSem sig := 51
abbrev cc4_sem7_0 : DmaSem sig := 52
abbrev cc4_sem7_1 : DmaSem sig := 53

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x272 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x272 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x272 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![2, 16], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_1 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_2 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_3 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage1_0 : Fin 2 → Memref sig .tc .vmem S1x2048x1x1x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1x1x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048x1x1x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2048x1x1x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x128x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x128x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x128x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x128x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![32], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x8x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x8x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .smem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x1x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1024x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1024 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S256x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]
-- ==== KernelIdeal.lean ====
variable {F : FTy → Type} [FloatOps F] [Named F]
def κ : String → Option EReal := fun
  | "mask" => some ⊥
  | _ => none
-- ==== ReferenceIdeal.lean ====
abbrev S2x2048x1024 : Shape := ⟨3, ![2, 2048, 1024]⟩
abbrev S1024x3072 : Shape := ⟨2, ![1024, 3072]⟩
abbrev S3072 : Shape := ⟨1, ![3072]⟩
abbrev S1024x64 : Shape := ⟨2, ![1024, 64]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S16x6x6 : Shape := ⟨3, ![16, 6, 6]⟩
abbrev S6x6 : Shape := ⟨2, ![6, 6]⟩
abbrev S2x2048x3072 : Shape := ⟨3, ![2, 2048, 3072]⟩
abbrev S1x1x3072 : Shape := ⟨3, ![1, 1, 3072]⟩
abbrev S2x2048x3x16x64 : Shape := ⟨5, ![2, 2048, 3, 16, 64]⟩
abbrev S3x2x16x2048x64 : Shape := ⟨5, ![3, 2, 16, 2048, 64]⟩
abbrev S1x2x16x2048x64 : Shape := ⟨5, ![1, 2, 16, 2048, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2048x2048 : Shape := ⟨2, ![2048, 2048]⟩
abbrev S2x16x2048 : Shape := ⟨3, ![2, 16, 2048]⟩
abbrev S2x16x2048x1 : Shape := ⟨4, ![2, 16, 2048, 1]⟩
abbrev S2x16x64x2048 : Shape := ⟨4, ![2, 16, 64, 2048]⟩
abbrev S2x2048x16x64 : Shape := ⟨4, ![2, 2048, 16, 64]⟩
abbrev S2x1x1024 : Shape := ⟨3, ![2, 1, 1024]⟩
abbrev S2x2047x1024 : Shape := ⟨3, ![2, 2047, 1024]⟩
abbrev S2x2048x64 : Shape := ⟨3, ![2, 2048, 64]⟩
abbrev S2x2048x16x4 : Shape := ⟨4, ![2, 2048, 16, 4]⟩
abbrev S2x2048x16x1 : Shape := ⟨4, ![2, 2048, 16, 1]⟩
abbrev S2x2048x16 : Shape := ⟨3, ![2, 2048, 16]⟩
abbrev S2x2048x16x6 : Shape := ⟨4, ![2, 2048, 16, 6]⟩
abbrev S2048x2x16x6 : Shape := ⟨4, ![2048, 2, 16, 6]⟩
abbrev S2x16x6x6 : Shape := ⟨4, ![2, 16, 6, 6]⟩
abbrev S2048x2x16 : Shape := ⟨3, ![2048, 2, 16]⟩
abbrev S1x2x16x6 : Shape := ⟨4, ![1, 2, 16, 6]⟩
abbrev S2x16x6 : Shape := ⟨3, ![2, 16, 6]⟩
abbrev S2x16 : Shape := ⟨2, ![2, 16]⟩
abbrev S16x2x6x6 : Shape := ⟨4, ![16, 2, 6, 6]⟩
abbrev S2x16x6x1 : Shape := ⟨4, ![2, 16, 6, 1]⟩
abbrev S2x16x1x6 : Shape := ⟨4, ![2, 16, 1, 6]⟩
abbrev S1x2x16 : Shape := ⟨3, ![1, 2, 16]⟩
abbrev S1x1x1024 : Shape := ⟨3, ![1, 1, 1024]⟩
abbrev S1x1x16 : Shape := ⟨3, ![1, 1, 16]⟩
abbrev S2x2048 : Shape := ⟨2, ![2, 2048]⟩
abbrev S2x2048x1 : Shape := ⟨3, ![2, 2048, 1]⟩

abbrev nBuf : Space → Nat
  | .hbm => 329
  | .vmem => 0
  | .smem => 0
  | _ => 0

abbrev hbmTy0_0 (i : Nat) : BufTy := match i % 128 with
  | 0 => ⟨S2x2048x1024, .f32⟩
  | 1 => ⟨S1024x3072, .f32⟩
  | 2 => ⟨S3072, .f32⟩
  | 3 => ⟨S1024x64, .f32⟩
  | 4 => ⟨S1024x64, .f32⟩
  | 5 => ⟨S1024x64, .f32⟩
  | 6 => ⟨S1024x64, .f32⟩
  | 7 => ⟨S1024x1024, .f32⟩
  | 8 => ⟨S1024, .f32⟩
  | 9 => ⟨S1024x16, .f32⟩
  | 10 => ⟨S16, .f32⟩
  | 11 => ⟨S16, .f32⟩
  | 12 => ⟨S1024x1024, .f32⟩
  | 13 => ⟨S1024, .f32⟩
  | 14 => ⟨S16x6x6, .f32⟩
  | 15 => ⟨S6x6, .f32⟩
  | 16 => ⟨S2x2048x3072, .f32⟩
  | 17 => ⟨S1x1x3072, .f32⟩
  | 18 => ⟨S2x2048x3072, .f32⟩
  | 19 => ⟨S2x2048x3072, .f32⟩
  | 20 => ⟨S2x2048x3x16x64, .f32⟩
  | 21 => ⟨S3x2x16x2048x64, .f32⟩
  | 22 => ⟨S1x2x16x2048x64, .f32⟩
  | 23 => ⟨S2x16x2048x64, .f32⟩
  | 24 => ⟨S1x2x16x2048x64, .f32⟩
  | 25 => ⟨S2x16x2048x64, .f32⟩
  | 26 => ⟨S1x2x16x2048x64, .f32⟩
  | 27 => ⟨S2x16x2048x64, .f32⟩
  | 28 => ⟨S2x16x2048x2048, .f32⟩
  | 29 => ⟨S_, .f32⟩
  | 30 => ⟨S2x16x2048x2048, .f32⟩
  | 31 => ⟨S2x16x2048x2048, .f32⟩
  | 32 => ⟨S_, .i1⟩
  | 33 => ⟨S2048x2048, .i1⟩
  | 34 => ⟨S2048x2048, .i32⟩
  | 35 => ⟨S_, .i32⟩
  | 36 => ⟨S2048x2048, .i32⟩
  | 37 => ⟨S2048x2048, .i32⟩
  | 38 => ⟨S2048x2048, .i32⟩
  | 39 => ⟨S2048x2048, .i1⟩
  | 40 => ⟨S_, .i1⟩
  | 41 => ⟨S2048x2048, .i1⟩
  | 42 => ⟨S2048x2048, .i1⟩
  | 43 => ⟨S_, .f32⟩
  | 44 => ⟨S_, .f32⟩
  | 45 => ⟨S2x16x2048x2048, .i1⟩
  | 46 => ⟨S2x16x2048x2048, .f32⟩
  | 47 => ⟨S2x16x2048x2048, .f32⟩
  | 48 => ⟨S_, .f32⟩
  | 49 => ⟨S2x16x2048, .f32⟩
  | 50 => ⟨S_, .f32⟩
  | 51 => ⟨S2x16x2048, .f32⟩
  | 52 => ⟨S2x16x2048, .f32⟩
  | 53 => ⟨S2x16x2048x1, .f32⟩
  | 54 => ⟨S2x16x2048x2048, .f32⟩
  | 55 => ⟨S2x16x2048x2048, .f32⟩
  | 56 => ⟨S2x16x2048x2048, .f32⟩
  | 57 => ⟨S_, .f32⟩
  | 58 => ⟨S2x16x2048, .f32⟩
  | 59 => ⟨S2x16x2048x1, .f32⟩
  | 60 => ⟨S2x16x2048x2048, .f32⟩
  | 61 => ⟨S2x16x2048x2048, .f32⟩
  | 62 => ⟨S2x16x64x2048, .f32⟩
  | 63 => ⟨S2x2048x16x64, .f32⟩
  | 64 => ⟨S2x2048x1024, .f32⟩
  | 65 => ⟨S_, .f32⟩
  | 66 => ⟨S2x1x1024, .f32⟩
  | 67 => ⟨S2x2047x1024, .f32⟩
  | 68 => ⟨S2x2048x1024, .f32⟩
  | 69 => ⟨S2x2048x64, .f32⟩
  | 70 => ⟨S2x2048x16x4, .f32⟩
  | 71 => ⟨S2x2048x64, .f32⟩
  | 72 => ⟨S2x2048x16x4, .f32⟩
  | 73 => ⟨S2x2048x16x1, .f32⟩
  | 74 => ⟨S2x2048x16, .f32⟩
  | 75 => ⟨S2x2048x16x1, .f32⟩
  | 76 => ⟨S2x2048x16, .f32⟩
  | 77 => ⟨S2x2048x16, .f32⟩
  | 78 => ⟨S2x2048x16x1, .f32⟩
  | 79 => ⟨S2x2048x16, .f32⟩
  | 80 => ⟨S2x2048x16x1, .f32⟩
  | 81 => ⟨S2x2048x16, .f32⟩
  | 82 => ⟨S2x2048x16, .f32⟩
  | 83 => ⟨S2x2048x16, .f32⟩
  | 84 => ⟨S2x2048x16x1, .f32⟩
  | 85 => ⟨S2x2048x16, .f32⟩
  | 86 => ⟨S2x2048x16x1, .f32⟩
  | 87 => ⟨S2x2048x16, .f32⟩
  | 88 => ⟨S2x2048x16, .f32⟩
  | 89 => ⟨S2x2048x16x1, .f32⟩
  | 90 => ⟨S2x2048x16, .f32⟩
  | 91 => ⟨S2x2048x16x1, .f32⟩
  | 92 => ⟨S2x2048x16, .f32⟩
  | 93 => ⟨S2x2048x16, .f32⟩
  | 94 => ⟨S2x2048x16, .f32⟩
  | 95 => ⟨S2x2048x16x1, .f32⟩
  | 96 => ⟨S2x2048x16, .f32⟩
  | 97 => ⟨S2x2048x16x1, .f32⟩
  | 98 => ⟨S2x2048x16, .f32⟩
  | 99 => ⟨S2x2048x16, .f32⟩
  | 100 => ⟨S2x2048x16x1, .f32⟩
  | 101 => ⟨S2x2048x16, .f32⟩
  | 102 => ⟨S2x2048x16x1, .f32⟩
  | 103 => ⟨S2x2048x16, .f32⟩
  | 104 => ⟨S2x2048x16, .f32⟩
  | 105 => ⟨S2x2048x16, .f32⟩
  | 106 => ⟨S2x2048x16x1, .f32⟩
  | 107 => ⟨S2x2048x16, .f32⟩
  | 108 => ⟨S2x2048x16x1, .f32⟩
  | 109 => ⟨S2x2048x16, .f32⟩
  | 110 => ⟨S2x2048x16, .f32⟩
  | 111 => ⟨S2x2048x16x1, .f32⟩
  | 112 => ⟨S2x2048x16, .f32⟩
  | 113 => ⟨S2x2048x16x1, .f32⟩
  | 114 => ⟨S2x2048x16, .f32⟩
  | 115 => ⟨S2x2048x16, .f32⟩
  | 116 => ⟨S2x2048x16, .f32⟩
  | 117 => ⟨S2x2048x16x1, .f32⟩
  | 118 => ⟨S2x2048x16, .f32⟩
  | 119 => ⟨S2x2048x16x1, .f32⟩
  | 120 => ⟨S2x2048x16, .f32⟩
  | 121 => ⟨S2x2048x16, .f32⟩
  | 122 => ⟨S2x2048x16x1, .f32⟩
  | 123 => ⟨S2x2048x16, .f32⟩
  | 124 => ⟨S2x2048x16x1, .f32⟩
  | 125 => ⟨S2x2048x16, .f32⟩
  | 126 => ⟨S2x2048x16, .f32⟩
  | 127 => ⟨S2x2048x16, .f32⟩
  | _ => ⟨S2x2048x1024, .f32⟩

abbrev hbmTy0_1 (i : Nat) : BufTy := match i % 128 with
  | 0 => ⟨S2x2048x16x1, .f32⟩
  | 1 => ⟨S2x2048x16, .f32⟩
  | 2 => ⟨S2x2048x16x1, .f32⟩
  | 3 => ⟨S2x2048x16, .f32⟩
  | 4 => ⟨S2x2048x16, .f32⟩
  | 5 => ⟨S2x2048x16x1, .f32⟩
  | 6 => ⟨S2x2048x16, .f32⟩
  | 7 => ⟨S2x2048x16x1, .f32⟩
  | 8 => ⟨S2x2048x16, .f32⟩
  | 9 => ⟨S2x2048x16, .f32⟩
  | 10 => ⟨S2x2048x16, .f32⟩
  | 11 => ⟨S2x2048x16x1, .f32⟩
  | 12 => ⟨S2x2048x16x1, .f32⟩
  | 13 => ⟨S2x2048x16x1, .f32⟩
  | 14 => ⟨S2x2048x16x1, .f32⟩
  | 15 => ⟨S2x2048x16x1, .f32⟩
  | 16 => ⟨S2x2048x16x1, .f32⟩
  | 17 => ⟨S2x2048x16x6, .f32⟩
  | 18 => ⟨S2x2048x16x6, .f32⟩
  | 19 => ⟨S_, .f32⟩
  | 20 => ⟨S2x2048x16, .f32⟩
  | 21 => ⟨S2x2048x16x1, .f32⟩
  | 22 => ⟨S2x2048x16x1, .f32⟩
  | 23 => ⟨S_, .f32⟩
  | 24 => ⟨S2x2048x16x1, .f32⟩
  | 25 => ⟨S2x2048x16x1, .f32⟩
  | 26 => ⟨S2x2048x16x6, .f32⟩
  | 27 => ⟨S2x2048x16x6, .f32⟩
  | 28 => ⟨S2x2048x64, .f32⟩
  | 29 => ⟨S2x2048x16x4, .f32⟩
  | 30 => ⟨S2x2048x64, .f32⟩
  | 31 => ⟨S2x2048x16x4, .f32⟩
  | 32 => ⟨S2x2048x16x1, .f32⟩
  | 33 => ⟨S2x2048x16, .f32⟩
  | 34 => ⟨S2x2048x16x1, .f32⟩
  | 35 => ⟨S2x2048x16, .f32⟩
  | 36 => ⟨S2x2048x16, .f32⟩
  | 37 => ⟨S2x2048x16x1, .f32⟩
  | 38 => ⟨S2x2048x16, .f32⟩
  | 39 => ⟨S2x2048x16x1, .f32⟩
  | 40 => ⟨S2x2048x16, .f32⟩
  | 41 => ⟨S2x2048x16, .f32⟩
  | 42 => ⟨S2x2048x16, .f32⟩
  | 43 => ⟨S2x2048x16x1, .f32⟩
  | 44 => ⟨S2x2048x16, .f32⟩
  | 45 => ⟨S2x2048x16x1, .f32⟩
  | 46 => ⟨S2x2048x16, .f32⟩
  | 47 => ⟨S2x2048x16, .f32⟩
  | 48 => ⟨S2x2048x16x1, .f32⟩
  | 49 => ⟨S2x2048x16, .f32⟩
  | 50 => ⟨S2x2048x16x1, .f32⟩
  | 51 => ⟨S2x2048x16, .f32⟩
  | 52 => ⟨S2x2048x16, .f32⟩
  | 53 => ⟨S2x2048x16, .f32⟩
  | 54 => ⟨S2x2048x16x1, .f32⟩
  | 55 => ⟨S2x2048x16, .f32⟩
  | 56 => ⟨S2x2048x16x1, .f32⟩
  | 57 => ⟨S2x2048x16, .f32⟩
  | 58 => ⟨S2x2048x16, .f32⟩
  | 59 => ⟨S2x2048x16x1, .f32⟩
  | 60 => ⟨S2x2048x16, .f32⟩
  | 61 => ⟨S2x2048x16x1, .f32⟩
  | 62 => ⟨S2x2048x16, .f32⟩
  | 63 => ⟨S2x2048x16, .f32⟩
  | 64 => ⟨S2x2048x16, .f32⟩
  | 65 => ⟨S2x2048x16x1, .f32⟩
  | 66 => ⟨S2x2048x16, .f32⟩
  | 67 => ⟨S2x2048x16x1, .f32⟩
  | 68 => ⟨S2x2048x16, .f32⟩
  | 69 => ⟨S2x2048x16, .f32⟩
  | 70 => ⟨S2x2048x16x1, .f32⟩
  | 71 => ⟨S2x2048x16, .f32⟩
  | 72 => ⟨S2x2048x16x1, .f32⟩
  | 73 => ⟨S2x2048x16, .f32⟩
  | 74 => ⟨S2x2048x16, .f32⟩
  | 75 => ⟨S2x2048x16, .f32⟩
  | 76 => ⟨S2x2048x16x1, .f32⟩
  | 77 => ⟨S2x2048x16, .f32⟩
  | 78 => ⟨S2x2048x16x1, .f32⟩
  | 79 => ⟨S2x2048x16, .f32⟩
  | 80 => ⟨S2x2048x16, .f32⟩
  | 81 => ⟨S2x2048x16x1, .f32⟩
  | 82 => ⟨S2x2048x16, .f32⟩
  | 83 => ⟨S2x2048x16x1, .f32⟩
  | 84 => ⟨S2x2048x16, .f32⟩
  | 85 => ⟨S2x2048x16, .f32⟩
  | 86 => ⟨S2x2048x16, .f32⟩
  | 87 => ⟨S2x2048x16x1, .f32⟩
  | 88 => ⟨S2x2048x16, .f32⟩
  | 89 => ⟨S2x2048x16x1, .f32⟩
  | 90 => ⟨S2x2048x16, .f32⟩
  | 91 => ⟨S2x2048x16, .f32⟩
  | 92 => ⟨S2x2048x16x1, .f32⟩
  | 93 => ⟨S2x2048x16, .f32⟩
  | 94 => ⟨S2x2048x16x1, .f32⟩
  | 95 => ⟨S2x2048x16, .f32⟩
  | 96 => ⟨S2x2048x16, .f32⟩
  | 97 => ⟨S2x2048x16, .f32⟩
  | 98 => ⟨S2x2048x16x1, .f32⟩
  | 99 => ⟨S2x2048x16x1, .f32⟩
  | 100 => ⟨S2x2048x16x1, .f32⟩
  | 101 => ⟨S2x2048x16x1, .f32⟩
  | 102 => ⟨S2x2048x16x1, .f32⟩
  | 103 => ⟨S2x2048x16x1, .f32⟩
  | 104 => ⟨S2x2048x16x6, .f32⟩
  | 105 => ⟨S2x2048x16x6, .f32⟩
  | 106 => ⟨S_, .f32⟩
  | 107 => ⟨S2x2048x16, .f32⟩
  | 108 => ⟨S2x2048x16x1, .f32⟩
  | 109 => ⟨S2x2048x16x1, .f32⟩
  | 110 => ⟨S_, .f32⟩
  | 111 => ⟨S2x2048x16x1, .f32⟩
  | 112 => ⟨S2x2048x16x1, .f32⟩
  | 113 => ⟨S2x2048x16x6, .f32⟩
  | 114 => ⟨S2x2048x16x6, .f32⟩
  | 115 => ⟨S2x2048x16x6, .f32⟩
  | 116 => ⟨S2048x2x16x6, .f32⟩
  | 117 => ⟨S2048x2x16x6, .f32⟩
  | 118 => ⟨S_, .f32⟩
  | 119 => ⟨S2x16x6x6, .f32⟩
  | 120 => ⟨S_, .f32⟩
  | 121 => ⟨S2048x2x16, .f32⟩
  | 122 => ⟨S_, .i32⟩
  | 123 => ⟨S2048x2x16x6, .f32⟩
  | 124 => ⟨S2048x2x16x6, .f32⟩
  | 125 => ⟨S16x6x6, .f32⟩
  | 126 => ⟨S_, .i32⟩
  | 127 => ⟨S2x16x6x6, .f32⟩
  | _ => ⟨S2x2048x1024, .f32⟩

abbrev hbmTy0_2 (i : Nat) : BufTy := match i % 128 with
  | 0 => ⟨S2048x2x16, .f32⟩
  | 1 => ⟨S_, .i32⟩
  | 2 => ⟨S_, .i1⟩
  | 3 => ⟨S_, .i32⟩
  | 4 => ⟨S_, .i32⟩
  | 5 => ⟨S_, .i32⟩
  | 6 => ⟨S1x2x16x6, .f32⟩
  | 7 => ⟨S2x16x6, .f32⟩
  | 8 => ⟨S_, .i32⟩
  | 9 => ⟨S_, .i32⟩
  | 10 => ⟨S_, .i32⟩
  | 11 => ⟨S1x2x16x6, .f32⟩
  | 12 => ⟨S2x16x6, .f32⟩
  | 13 => ⟨S2x16x6, .f32⟩
  | 14 => ⟨S2x16, .f32⟩
  | 15 => ⟨S16x2x6x6, .f32⟩
  | 16 => ⟨S2x16x6x6, .f32⟩
  | 17 => ⟨S16x2x6x6, .f32⟩
  | 18 => ⟨S2x16x6x6, .f32⟩
  | 19 => ⟨S2x16x6x1, .f32⟩
  | 20 => ⟨S2x16x1x6, .f32⟩
  | 21 => ⟨S2x16x6x6, .f32⟩
  | 22 => ⟨S2x16x6x6, .f32⟩
  | 23 => ⟨S2x16x6x6, .f32⟩
  | 24 => ⟨S2x16x6x6, .f32⟩
  | 25 => ⟨S1x2x16, .f32⟩
  | 26 => ⟨S_, .i32⟩
  | 27 => ⟨S_, .i32⟩
  | 28 => ⟨S2048x2x16, .f32⟩
  | 29 => ⟨S_, .i32⟩
  | 30 => ⟨S_, .i32⟩
  | 31 => ⟨S2x2048x16, .f32⟩
  | 32 => ⟨S2x2048x1024, .f32⟩
  | 33 => ⟨S1x1x1024, .f32⟩
  | 34 => ⟨S2x2048x1024, .f32⟩
  | 35 => ⟨S2x2048x1024, .f32⟩
  | 36 => ⟨S2x2048x16, .f32⟩
  | 37 => ⟨S1x1x16, .f32⟩
  | 38 => ⟨S2x2048x16, .f32⟩
  | 39 => ⟨S2x2048x16, .f32⟩
  | 40 => ⟨S2x2048x16, .f32⟩
  | 41 => ⟨S2x2048x16, .f32⟩
  | 42 => ⟨S_, .f32⟩
  | 43 => ⟨S2x2048x16, .f32⟩
  | 44 => ⟨S2x2048x16, .f32⟩
  | 45 => ⟨S_, .f32⟩
  | 46 => ⟨S2x2048x16, .f32⟩
  | 47 => ⟨S2x2048x16, .f32⟩
  | 48 => ⟨S1x1x16, .f32⟩
  | 49 => ⟨S2x2048x16, .f32⟩
  | 50 => ⟨S2x2048x16, .f32⟩
  | 51 => ⟨S2x2048x16, .f32⟩
  | 52 => ⟨S2x2048x16, .f32⟩
  | 53 => ⟨S_, .f32⟩
  | 54 => ⟨S2x2048x16, .f32⟩
  | 55 => ⟨S2x2048x16, .f32⟩
  | 56 => ⟨S_, .f32⟩
  | 57 => ⟨S2x2048x16, .f32⟩
  | 58 => ⟨S2x2048x16, .f32⟩
  | 59 => ⟨S2x2048x16, .f32⟩
  | 60 => ⟨S_, .f32⟩
  | 61 => ⟨S2x2048, .f32⟩
  | 62 => ⟨S2x2048x1, .f32⟩
  | 63 => ⟨S_, .f32⟩
  | 64 => ⟨S2x2048x1, .f32⟩
  | 65 => ⟨S2x2048x1, .f32⟩
  | 66 => ⟨S2x2048x1024, .f32⟩
  | 67 => ⟨S2x2048x1024, .f32⟩
  | 68 => ⟨S2x2048x1024, .f32⟩
  | 69 => ⟨S2x2048x1024, .f32⟩
  | 70 => ⟨S1x1x1024, .f32⟩
  | 71 => ⟨S2x2048x1024, .f32⟩
  | 72 => ⟨S2x2048x1024, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_call0_v0 : Ref sig .tc := ⟨.hbm, 34, rfl⟩
abbrev main_call0_c : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_c_0 : Ref sig .tc := ⟨.hbm, 40, rfl⟩
abbrev main_call0_v5 : Ref sig .tc := ⟨.hbm, 41, rfl⟩
abbrev main_v16 : Ref sig .tc := ⟨.hbm, 42, rfl⟩
abbrev main_cst_1 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v17 : Ref sig .tc := ⟨.hbm, 47, rfl⟩
abbrev main_cst_2 : Ref sig .tc := ⟨.hbm, 48, rfl⟩
abbrev main_v18 : Ref sig .tc := ⟨.hbm, 49, rfl⟩
abbrev main_cst_3 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_4 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_5 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_call2_v0 : Ref sig .tc := ⟨.hbm, 146, rfl⟩
abbrev main_call2_cst : Ref sig .tc := ⟨.hbm, 147, rfl⟩
abbrev main_call2_v1 : Ref sig .tc := ⟨.hbm, 148, rfl⟩
abbrev main_call2_v2 : Ref sig .tc := ⟨.hbm, 149, rfl⟩
abbrev main_v112 : Ref sig .tc := ⟨.hbm, 150, rfl⟩
abbrev main_cst_6 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_call3_v0 : Ref sig .tc := ⟨.hbm, 233, rfl⟩
abbrev main_call3_cst : Ref sig .tc := ⟨.hbm, 234, rfl⟩
abbrev main_call3_v1 : Ref sig .tc := ⟨.hbm, 235, rfl⟩
abbrev main_call3_v2 : Ref sig .tc := ⟨.hbm, 236, rfl⟩
abbrev main_v194 : Ref sig .tc := ⟨.hbm, 237, rfl⟩
abbrev main_cst_7 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_cst_8 : Ref sig .tc := ⟨.hbm, 246, rfl⟩
abbrev main_v202 : Ref sig .tc := ⟨.hbm, 247, rfl⟩
abbrev main_cst_9 : Ref sig .tc := ⟨.hbm, 248, rfl⟩
abbrev main_v203 : Ref sig .tc := ⟨.hbm, 249, rfl⟩
abbrev main_c_10 : Ref sig .tc := ⟨.hbm, 250, rfl⟩
abbrev main_v204_0 : Ref sig .tc := ⟨.hbm, 251, rfl⟩
abbrev main_v204_1 : Ref sig .tc := ⟨.hbm, 252, rfl⟩
abbrev main_v204_2 : Ref sig .tc := ⟨.hbm, 253, rfl⟩
abbrev main_v204_3 : Ref sig .tc := ⟨.hbm, 254, rfl⟩
abbrev main_v204_4 : Ref sig .tc := ⟨.hbm, 255, rfl⟩
abbrev main_v204_5 : Ref sig .tc := ⟨.hbm, 256, rfl⟩
abbrev main_while0c_c_22 : Ref sig .tc := ⟨.hbm, 257, rfl⟩
abbrev main_while0c_v241 : Ref sig .tc := ⟨.hbm, 258, rfl⟩
abbrev main_while0b_call4_c : Ref sig .tc := ⟨.hbm, 259, rfl⟩
abbrev main_while0b_call4_c_0 : Ref sig .tc := ⟨.hbm, 260, rfl⟩
abbrev main_while0b_call4_c_1 : Ref sig .tc := ⟨.hbm, 261, rfl⟩
abbrev main_while0b_call4_v0 : Ref sig .tc := ⟨.hbm, 262, rfl⟩
abbrev main_while0b_v241 : Ref sig .tc := ⟨.hbm, 263, rfl⟩
abbrev main_while0b_call5_c : Ref sig .tc := ⟨.hbm, 264, rfl⟩
abbrev main_while0b_call5_c_0 : Ref sig .tc := ⟨.hbm, 265, rfl⟩
abbrev main_while0b_call5_c_1 : Ref sig .tc := ⟨.hbm, 266, rfl⟩
abbrev main_while0b_call5_v0 : Ref sig .tc := ⟨.hbm, 267, rfl⟩
abbrev main_while0b_v242 : Ref sig .tc := ⟨.hbm, 268, rfl⟩
abbrev main_while0b_v243 : Ref sig .tc := ⟨.hbm, 269, rfl⟩
abbrev main_while0b_v244 : Ref sig .tc := ⟨.hbm, 270, rfl⟩
abbrev main_while0b_v245 : Ref sig .tc := ⟨.hbm, 271, rfl⟩
abbrev main_while0b_v246 : Ref sig .tc := ⟨.hbm, 272, rfl⟩
abbrev main_while0b_v247 : Ref sig .tc := ⟨.hbm, 273, rfl⟩
abbrev main_while0b_v248 : Ref sig .tc := ⟨.hbm, 274, rfl⟩
abbrev main_while0b_v249 : Ref sig .tc := ⟨.hbm, 275, rfl⟩
abbrev main_while0b_v250 : Ref sig .tc := ⟨.hbm, 276, rfl⟩
abbrev main_while0b_v251 : Ref sig .tc := ⟨.hbm, 277, rfl⟩
abbrev main_while0b_v252 : Ref sig .tc := ⟨.hbm, 278, rfl⟩
abbrev main_while0b_v253 : Ref sig .tc := ⟨.hbm, 279, rfl⟩
abbrev main_while0b_v254 : Ref sig .tc := ⟨.hbm, 280, rfl⟩
abbrev main_while0b_call6_v0 : Ref sig .tc := ⟨.hbm, 281, rfl⟩
abbrev main_while0b_call6_c : Ref sig .tc := ⟨.hbm, 282, rfl⟩
abbrev main_while0b_call6_c_0 : Ref sig .tc := ⟨.hbm, 283, rfl⟩
abbrev main_while0b_v255 : Ref sig .tc := ⟨.hbm, 284, rfl⟩
abbrev main_while0b_c_22 : Ref sig .tc := ⟨.hbm, 285, rfl⟩
abbrev main_while0b_v256 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_cst_11 : Ref sig .tc := ⟨.hbm, 298, rfl⟩
abbrev main_v216 : Ref sig .tc := ⟨.hbm, 299, rfl⟩
abbrev main_v217 : Ref sig .tc := ⟨.hbm, 300, rfl⟩
abbrev main_cst_12 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_cst_13 : Ref sig .tc := ⟨.hbm, 309, rfl⟩
abbrev main_v225 : Ref sig .tc := ⟨.hbm, 310, rfl⟩
abbrev main_v226 : Ref sig .tc := ⟨.hbm, 311, rfl⟩
abbrev main_cst_14 : Ref sig .tc := ⟨.hbm, 312, rfl⟩
abbrev main_v227 : Ref sig .tc := ⟨.hbm, 313, rfl⟩
abbrev main_v228 : Ref sig .tc := ⟨.hbm, 314, rfl⟩
abbrev main_v229 : Ref sig .tc := ⟨.hbm, 315, rfl⟩
abbrev main_cst_15 : Ref sig .tc := ⟨.hbm, 316, rfl⟩
abbrev main_v230 : Ref sig .tc := ⟨.hbm, 317, rfl⟩
abbrev main_v231 : Ref sig .tc := ⟨.hbm, 318, rfl⟩
abbrev main_cst_16 : Ref sig .tc := ⟨.hbm, 319, rfl⟩
abbrev main_v232 : Ref sig .tc := ⟨.hbm, 320, rfl⟩
abbrev main_v233 : Ref sig .tc := ⟨.hbm, 321, rfl⟩
abbrev main_v234 : Ref sig .tc := ⟨.hbm, 322, rfl⟩
abbrev main_v235 : Ref sig .tc := ⟨.hbm, 323, rfl⟩
abbrev main_v236 : Ref sig .tc := ⟨.hbm, 324, rfl⟩
abbrev main_v237 : Ref sig .tc := ⟨.hbm, 325, rfl⟩
abbrev main_v238 : Ref sig .tc := ⟨.hbm, 326, rfl⟩
abbrev main_v239 : Ref sig .tc := ⟨.hbm, 327, rfl⟩
abbrev main_v240 : Ref sig .tc := ⟨.hbm, 328, rfl⟩

abbrev nD : Nat := 1
abbrev τ : Topo := Topo.v7x

variable {F : FTy → Type} [FloatOps F]

abbrev main_while0_count : Scf.Loop 32 := ⟨0#32, 2048#32, 1#32⟩
-- ==== Proof.KerRun.lean ====
/- The kernel's run: it terminates, its arguments end as launched, and its result is the fold of its stretches and calls. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the segments, the result buffer read along with the arguments. -/
theorem ker_run : θ_run defs (onTc (τ := τ) (main (F := F))) ⟨m, fun _ => 0, ρ⟩ (fun r => (∀ c : Dev nD,
      r.2.mem ((c.tc : Thread nD τ).loc main_v51) = W11 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨(fun c =>
      ⟨h c _ (mem_uc main_v51 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c)⟩), funext fun g => hz g (.inr (no_unscoped g.2))⟩)

end Cert.KernelIdeal.Gen

end
-- ==== Proof.RefRun.lean ====
/- The reference's run: it terminates, its arguments end as launched, and its result is the fold of its operations. -/
module

public import proofs.«01_k».proof.Proof.Gen.ReferenceIdeal.Run
public import Idealize.ShloMosaic.Lib.Quiescent

@[expose] public section

noncomputable section

namespace Cert.ReferenceIdeal.Value

open Cert.ReferenceIdeal Cert.ReferenceIdeal.Gen
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

/-- The contents after the whole program. -/
abbrev RW (c : Dev nD) : Valuation τ sig (Elt F) := finalContents condOps preI bodyI postI 2048 m c

/-- The references the stretches before the loop write. -/
abbrev preW : List (Ref sig .tc) :=
  hostOps0_W ++ hostOps0_1_W ++ hostOps0_2_W ++ hostOps0_3_W ++ hostOps0_4_W ++ hostOps0_5_W ++ hostOps0_6_W
    ++ hostOps0_7_W ++ hostOps0_8_W
/-- The references the loop writes. -/
abbrev loopW : List (Ref sig .tc) :=
  condOps_W ++ while0Ops0_W ++ while0Ops0_1_W ++ while0Ops0_2_W ++ while0Ops0_3_W ++ while0Ops0_4_W

/-- A reference no stretch before the loop writes is at the loop's entry as launched. -/
theorem entry_keep (c : Dev nD) (r : Ref sig .tc) (h : r ∉ preW) :
    entryContents preI m c (Proc.devRef .tc r) = m ((c.tc : Thread nD τ).loc r) := by
  simp only [preW, List.mem_append, not_or] at h
  obtain ⟨⟨⟨⟨⟨⟨⟨⟨h0, h1⟩, h2⟩, h3⟩, h4⟩, h5⟩, h6⟩, h7⟩, h8⟩ := h
  simp only [entryContents, afterL_cons, afterL_nil]
  rw [after_of_writes_sub hostOps0_8 _ hostOps0_8_writes h8, after_of_writes_sub hostOps0_7 _ hostOps0_7_writes h7,
    after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- A reference the loop does not write keeps its contents through any number of trips. -/
theorem loop_keep (c : Dev nD) (r : Ref sig .tc) (h : r ∉ loopW) (k : ℕ) :
    atK m k c (Proc.devRef .tc r) = entryContents preI m c (Proc.devRef .tc r) := by
  have h' := h
  simp only [loopW, List.mem_append, not_or] at h'
  obtain ⟨⟨⟨⟨⟨hc, h0⟩, h1⟩, h2⟩, h3⟩, h4⟩ := h'
  induction k with
  | zero => rfl
  | succ k ih =>
    rw [show atK m (k + 1) c = afterL bodyI (after condOps (atK m k c)) from rfl]
    simp only [afterL_cons, afterL_nil]
    rw [after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc, ih]
    rfl

/-- The references the stretch after the loop writes, in order. -/
abbrev tailW : List (Ref sig .tc) :=
  [main_v205, main_v206, main_v207, main_v208, main_v209, main_v210, main_v211, main_v212, main_v213, main_v214, main_v215, main_cst_11, main_v216, main_v217, main_cst_12, main_v218, main_v219, main_v220, main_v221, main_v222, main_v223, main_v224, main_cst_13, main_v225, main_v226, main_cst_14, main_v227, main_v228, main_v229, main_cst_15, main_v230, main_v231, main_cst_16, main_v232, main_v233, main_v234, main_v235, main_v236, main_v237, main_v238, main_v239, main_v240]
theorem tail_writes : (hostOps0_9 : List (HloOp τ sig (Elt F))).Forall fun op =>
    op.writes ⊆ (tailW.map (Proc.devRef (τ := τ) .tc)).toFinset :=
  StableHlo.forall_writes_sub_of_map rfl

/-- The contents at the last stretch's head. -/
abbrev RL (c : Dev nD) : Valuation τ sig (Elt F) := after condOps (atK m 2048 c)

/-- A reference the loop does not write is at the last stretch's head as at the loop's entry. -/
theorem last_keep (c : Dev nD) (r : Ref sig .tc) (h : r ∉ loopW) :
    RL m c (Proc.devRef .tc r) = entryContents preI m c (Proc.devRef .tc r) := by
  have h' := h
  simp only [loopW, List.mem_append, not_or] at h'
  rw [RL, after_of_writes_sub condOps _ condOps_writes h'.1.1.1.1.1, loop_keep m c r h]

/-- A reference nothing writes ends as launched. -/
theorem final_keep (c : Dev nD) (r : Ref sig .tc) (h : r ∉ preW) (hl : r ∉ loopW) (hp : r ∉ tailW) :
    RW m c (Proc.devRef .tc r) = m ((c.tc : Thread nD τ).loc r) := by
  show after hostOps0_9 (RL m c) _ = _
  rw [after_of_writes_sub hostOps0_9 _ tail_writes hp, last_keep m c r hl, entry_keep m c r h]

set_option maxRecDepth 8000 in
/-- The run: the result at the fold, every argument as launched, every counter at zero. -/
theorem ref_run : θ_run defs (onTc (τ := τ) (main (F := F))) ⟨m, fun _ => 0, ρ⟩ (fun r => (∀ c : Dev nD,
      r.2.mem ((c.tc : Thread nD τ).loc main_v240) = RW m c (Proc.devRef .tc main_v240)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨fun c =>
    ⟨h c main_v240 (by decide),
     (h c main_arg0 (by decide)).trans (final_keep m c main_arg0 (by decide +kernel) (by decide +kernel) (by decide +kernel)),
     (h c main_arg1 (by decide)).trans (final_keep m c main_arg1 (by decide +kernel) (by decide +kernel) (by decide +kernel)),
     (h c main_arg2 (by decide)).trans (final_keep m c main_arg2 (by decide +kernel) (by decide +kernel) (by decide +kernel)),
     (h c main_arg3 (by decide)).trans (final_keep m c main_arg3 (by decide +kernel) (by decide +kernel) (by decide +kernel)),
     (h c main_arg4 (by decide)).trans (final_keep m c main_arg4 (by decide +kernel) (by decide +kernel) (by decide +kernel)),
     (h c main_arg5 (by decide)).trans (final_keep m c main_arg5 (by decide +kernel) (by decide +kernel) (by decide +kernel)),
     (h c main_arg6 (by decide)).trans (final_keep m c main_arg6 (by decide +kernel) (by decide +kernel) (by decide +kernel)),
     (h c main_arg7 (by decide)).trans (final_keep m c main_arg7 (by decide +kernel) (by decide +kernel) (by decide +kernel)),
     (h c main_arg8 (by decide)).trans (final_keep m c main_arg8 (by decide +kernel) (by decide +kernel) (by decide +kernel)),
     (h c main_arg9 (by decide)).trans (final_keep m c main_arg9 (by decide +kernel) (by decide +kernel) (by decide +kernel)),
     (h c main_arg10 (by decide)).trans (final_keep m c main_arg10 (by decide +kernel) (by decide +kernel) (by decide +kernel)),
     (h c main_arg11 (by decide)).trans (final_keep m c main_arg11 (by decide +kernel) (by decide +kernel) (by decide +kernel)),
     (h c main_arg12 (by decide)).trans (final_keep m c main_arg12 (by decide +kernel) (by decide +kernel) (by decide +kernel)),
     (h c main_arg13 (by decide)).trans (final_keep m c main_arg13 (by decide +kernel) (by decide +kernel) (by decide +kernel)),
     (h c main_arg14 (by decide)).trans (final_keep m c main_arg14 (by decide +kernel) (by decide +kernel) (by decide +kernel))⟩,
    sem_eq_zero_of_no_sems (by decide) _⟩) (run_fold m ρ)

end Cert.ReferenceIdeal.Value

end
-- ==== Proof.Spec.lean ====
/- The formulas both programs are compared at: Plücker lines of two points, as extended reals. -/
module

public import Idealize.ShloMosaic.PureOps.Ideal

@[expose] public section

noncomputable section

open Idealize.ShloMosaic

namespace Cert.Spec

/-- One Plücker coordinate of the line through `a` and `b`. -/
def plk (a b : Fin 4 → EReal) (i j : Fin 4) : EReal := a i * b j - a j * b i

/-- The sum of the six squared coordinates. -/
def sq6 (a b : Fin 4 → EReal) : EReal :=
  plk a b 0 1 * plk a b 0 1 + plk a b 0 2 * plk a b 0 2 + plk a b 0 3 * plk a b 0 3 + plk a b 1 2 * plk a b 1 2
    + plk a b 1 3 * plk a b 1 3 + plk a b 2 3 * plk a b 2 3

/-- The norm, kept away from zero. -/
def nrm (a b : Fin 4 → EReal) : EReal := max (Ideal.sqrt (sq6 a b)) (Ideal.ofBits .f32 0x2B8CBCCC#32)

/-- One coordinate of the line of length one. -/
def line (a b : Fin 4 → EReal) (i j : Fin 4) : EReal := plk a b i j * Ideal.div 1 (nrm a b)

/-- A read line, padded by two zero rows to eight. -/
def rrow (a b : Fin 4 → EReal) (q : ℕ) : EReal :=
  if q = 0 then line a b 0 1 else if q = 1 then line a b 0 2 else if q = 2 then line a b 0 3
  else if q = 3 then line a b 1 2 else if q = 4 then line a b 1 3 else if q = 5 then line a b 2 3 else 0

/-- A written line after the reversal with signs, padded by two zero rows to eight. -/
def jrow (a b : Fin 4 → EReal) (q : ℕ) : EReal :=
  if q = 0 then line a b 2 3 else if q = 1 then 0 - line a b 1 3 else if q = 2 then line a b 1 2
  else if q = 3 then line a b 0 3 else if q = 4 then 0 - line a b 0 2 else if q = 5 then line a b 0 1 else 0

end Cert.Spec

end
-- ==== Proof.LineMath.lean ====
/- Lines of length one are real, whatever the two points are. -/
module

public import Idealize.ShloMosaic.PureOps.Ideal
public import proofs.«01_k».proof.Proof.Spec

@[expose] public section

noncomputable section

open Idealize.ShloMosaic

namespace Cert.Spec

/-- The six coordinates before the division. -/
def pvec (a b : Fin 4 → EReal) : Fin 6 → EReal :=
  ![plk a b 0 1, plk a b 0 2, plk a b 0 3, plk a b 1 2, plk a b 1 3, plk a b 2 3]

theorem sq6_eq (a b : Fin 4 → EReal) : sq6 a b = ∑ k, pvec a b k * pvec a b k := by
  rw [Fin.sum_univ_six]; rfl

theorem mul_self_nonneg' (x : EReal) : 0 ≤ x * x := by
  induction x using EReal.rec with
  | bot => simp
  | top => simp
  | coe r => rw [← EReal.coe_mul]; exact_mod_cast mul_self_nonneg r

/-- The small constant is positive. -/
theorem eps_real : ∃ ε : ℝ, 0 < ε ∧ Ideal.ofBits .f32 0x2B8CBCCC#32 = (ε : EReal) := by
  simp only [Ideal.ofBits, Ideal.ieee]
  rw [if_neg (by decide), if_neg (by decide), if_neg (by decide)]
  exact ⟨_, by positivity, rfl⟩

theorem nrm_pos (a b : Fin 4 → EReal) : 0 < nrm a b := by
  obtain ⟨ε, h0, h⟩ := eps_real
  unfold nrm
  rw [h]
  exact lt_of_lt_of_le (by exact_mod_cast h0) (le_max_right _ _)

theorem line_eq_div (a b : Fin 4 → EReal) (i j : Fin 4) : line a b i j = Ideal.div (plk a b i j) (nrm a b) := by
  unfold line Ideal.div
  rw [if_neg (nrm_pos a b).ne', if_neg (nrm_pos a b).ne', one_mul]

/-- A coordinate divided by the norm is real. -/
theorem coord_real (a b : Fin 4 → EReal) (k : Fin 6) : ∃ ρ : ℝ, Ideal.div (pvec a b k) (nrm a b) = (ρ : EReal) := by
  by_cases hn : nrm a b = ⊤
  · refine ⟨0, ?_⟩
    rw [hn]
    simp [Ideal.div]
  · have hb : nrm a b ≠ ⊥ := (lt_trans (EReal.bot_lt_zero) (nrm_pos a b)).ne'
    have hs : sq6 a b ≠ ⊤ := fun h => hn (by unfold nrm; rw [h, Ideal.sqrt_top]; exact max_eq_left le_top)
    have hk : pvec a b k * pvec a b k ≠ ⊤ := by
      intro h
      apply hs
      rw [sq6_eq]
      refine top_le_iff.1 ?_
      rw [← h]
      exact Finset.single_le_sum (f := fun k => pvec a b k * pvec a b k) (fun k _ => mul_self_nonneg' _) (Finset.mem_univ k)
    have hp : pvec a b k ≠ ⊤ := fun h => hk (by rw [h]; simp)
    have hp' : pvec a b k ≠ ⊥ := fun h => hk (by rw [h]; simp)
    rw [← EReal.coe_toReal hn hb, ← EReal.coe_toReal hp hp']
    have hz : (nrm a b).toReal ≠ 0 := by
      intro h
      have h1 := nrm_pos a b
      rw [← EReal.coe_toReal hn hb, h] at h1
      simp at h1
    rw [Ideal.div_coe hz, ← EReal.coe_mul]
    exact ⟨_, rfl⟩

theorem line_real (a b : Fin 4 → EReal) (i j : Fin 4) (k : Fin 6) (h : pvec a b k = plk a b i j) :
    ∃ ρ : ℝ, line a b i j = (ρ : EReal) := by
  rw [line_eq_div, ← h]
  exact coord_real a b k

theorem neg_real {x : EReal} (h : ∃ ρ : ℝ, x = (ρ : EReal)) : ∃ ρ : ℝ, 0 - x = (ρ : EReal) := by
  obtain ⟨ρ, rfl⟩ := h
  exact ⟨0 - ρ, by rw [EReal.coe_sub]; rfl⟩

theorem rrow_real (a b : Fin 4 → EReal) (q : ℕ) : ∃ ρ : ℝ, rrow a b q = (ρ : EReal) := by
  unfold rrow
  split_ifs
  · exact line_real a b 0 1 0 rfl
  · exact line_real a b 0 2 1 rfl
  · exact line_real a b 0 3 2 rfl
  · exact line_real a b 1 2 3 rfl
  · exact line_real a b 1 3 4 rfl
  · exact line_real a b 2 3 5 rfl
  · exact ⟨0, rfl⟩

theorem jrow_real (a b : Fin 4 → EReal) (q : ℕ) : ∃ ρ : ℝ, jrow a b q = (ρ : EReal) := by
  unfold jrow
  split_ifs
  · exact line_real a b 2 3 5 rfl
  · exact neg_real (line_real a b 1 3 4 rfl)
  · exact line_real a b 1 2 3 rfl
  · exact line_real a b 0 3 2 rfl
  · exact neg_real (line_real a b 0 2 1 rfl)
  · exact line_real a b 0 1 0 rfl
  · exact ⟨0, rfl⟩

end Cert.Spec

end
-- ==== Proof.AttnMath.lean ====
/- The running softmax in exact arithmetic: rescaled partial sums divide out to one weighted mean. -/
module

public import Idealize.ShloMosaic.PureOps.Ideal
public import proofs.«01_k».proof.Proof.Spec

@[expose] public section

noncomputable section

open Idealize.ShloMosaic

namespace Cert.Spec

/-- A sum of real numbers, as an extended real. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The weight of a score: its exponential, zero for a masked one. -/
def ew (s : EReal) : ℝ := if s = ⊥ then 0 else Real.exp s.toReal

theorem ew_nonneg (s : EReal) : 0 ≤ ew s := by
  unfold ew; split
  · exact le_refl _
  · exact (Real.exp_pos _).le

theorem ew_bot : ew ⊥ = 0 := by simp [ew]
theorem ew_coe (σ : ℝ) : ew (σ : EReal) = Real.exp σ := by simp [ew]

theorem exp_sub_real {s : EReal} (hs : s ≠ ⊤) (μ : ℝ) :
    Ideal.exp (s - (μ : EReal)) = ((ew s * Real.exp (-μ) : ℝ) : EReal) := by
  induction s using EReal.rec with
  | bot => simp [ew_bot]
  | top => exact absurd rfl hs
  | coe σ => rw [← EReal.coe_sub, Ideal.exp_coe, ew_coe, sub_eq_add_neg, Real.exp_add]

/-- A maximum of scores of which none is infinite above and one is real is real. -/
theorem max_fold_real {n : ℕ} (m : EReal) (S : Fin n → EReal) (hm : m ≠ ⊤) (hS : ∀ k, S k ≠ ⊤) (h : ∃ k, S k ≠ ⊥) :
    ∃ μ : ℝ, max m (Finset.fold max ⊥ S Finset.univ) = (μ : EReal) := by
  have ht : max m (Finset.fold max ⊥ S Finset.univ) ≠ ⊤ := by
    refine ne_of_lt (max_lt (lt_top_iff_ne_top.2 hm) ?_)
    rw [Finset.fold_max_lt]
    exact ⟨bot_lt_top, fun k _ => lt_top_iff_ne_top.2 (hS k)⟩
  have hb : max m (Finset.fold max ⊥ S Finset.univ) ≠ ⊥ := by
    obtain ⟨k, hk⟩ := h
    refine ne_of_gt (lt_of_lt_of_le (bot_lt_iff_ne_bot.2 hk) (le_trans ?_ (le_max_right _ _)))
    rw [Finset.le_fold_max]
    exact .inr ⟨k, Finset.mem_univ k, le_refl _⟩
  exact ⟨_, (EReal.coe_toReal ht hb).symm⟩

/-- The running maximum, normaliser and weighted sum stand for the plain sums `Z` and `A`. -/
def Stands (m l a : EReal) (Z A : ℝ) : Prop :=
  (m = ⊥ ∧ l = 0 ∧ a = 0 ∧ Z = 0 ∧ A = 0) ∨
  ∃ μ : ℝ, m = (μ : EReal) ∧ l = ((Z * Real.exp (-μ) : ℝ) : EReal) ∧ a = ((A * Real.exp (-μ) : ℝ) : EReal)

theorem Stands.start : Stands ⊥ 0 0 0 0 := .inl ⟨rfl, rfl, rfl, rfl, rfl⟩

theorem Stands.ne_top {m l a : EReal} {Z A : ℝ} (h : Stands m l a Z A) : m ≠ ⊤ := by
  rcases h with ⟨rfl, _⟩ | ⟨μ, rfl, _⟩
  · exact bot_ne_top
  · exact EReal.coe_ne_top μ

theorem Stands.rescale {m l a : EReal} {Z A : ℝ} (h : Stands m l a Z A) (ν : ℝ) :
    l * Ideal.exp (m - (ν : EReal)) = ((Z * Real.exp (-ν) : ℝ) : EReal)
    ∧ a * Ideal.exp (m - (ν : EReal)) = ((A * Real.exp (-ν) : ℝ) : EReal) := by
  have hm := exp_sub_real h.ne_top ν
  rw [hm]
  rcases h with ⟨rfl, rfl, rfl, rfl, rfl⟩ | ⟨μ, rfl, rfl, rfl⟩
  · simp
  · have he : Real.exp (-μ) * Real.exp μ = 1 := by rw [← Real.exp_add]; simp
    rw [ew_coe, ← EReal.coe_mul, ← EReal.coe_mul]
    constructor
    · congr 1
      calc Z * Real.exp (-μ) * (Real.exp μ * Real.exp (-ν)) = Z * (Real.exp (-μ) * Real.exp μ) * Real.exp (-ν) := by ring
        _ = Z * Real.exp (-ν) := by rw [he, mul_one]
    · congr 1
      calc A * Real.exp (-μ) * (Real.exp μ * Real.exp (-ν)) = A * (Real.exp (-μ) * Real.exp μ) * Real.exp (-ν) := by ring
        _ = A * Real.exp (-ν) := by rw [he, mul_one]

theorem sum_exp_real {n : ℕ} (S : Fin n → EReal) (hS : ∀ k, S k ≠ ⊤) (ν : ℝ) :
    (∑ k, Ideal.exp (S k - (ν : EReal))) = (((∑ k, ew (S k)) * Real.exp (-ν) : ℝ) : EReal) := by
  rw [Finset.sum_mul, ← coe_sum]
  exact Finset.sum_congr rfl fun k _ => exp_sub_real (hS k) ν

theorem sum_exp_mul_real {n : ℕ} (S v : Fin n → EReal) (vr : Fin n → ℝ) (hv : ∀ k, v k = (vr k : EReal)) (hS : ∀ k, S k ≠ ⊤) (ν : ℝ) :
    (∑ k, Ideal.exp (S k - (ν : EReal)) * v k) = (((∑ k, ew (S k) * vr k) * Real.exp (-ν) : ℝ) : EReal) := by
  rw [Finset.sum_mul, ← coe_sum]
  refine Finset.sum_congr rfl fun k _ => ?_
  rw [exp_sub_real (hS k) ν, hv k, ← EReal.coe_mul]
  congr 1
  ring

/-- One chunk of scores. -/
theorem Stands.step {m l a : EReal} {Z A : ℝ} (h : Stands m l a Z A) {n : ℕ} (S v : Fin n → EReal) (vr : Fin n → ℝ)
    (hv : ∀ k, v k = (vr k : EReal)) (hS : ∀ k, S k ≠ ⊤) (h1 : ∃ k, S k ≠ ⊥) :
    Stands (max m (Finset.fold max ⊥ S Finset.univ))
      (l * Ideal.exp (m - max m (Finset.fold max ⊥ S Finset.univ))
        + ∑ k, Ideal.exp (S k - max m (Finset.fold max ⊥ S Finset.univ)))
      (a * Ideal.exp (m - max m (Finset.fold max ⊥ S Finset.univ))
        + ∑ k, Ideal.exp (S k - max m (Finset.fold max ⊥ S Finset.univ)) * v k)
      (Z + ∑ k, ew (S k)) (A + ∑ k, ew (S k) * vr k) := by
  obtain ⟨ν, hν⟩ := max_fold_real m S h.ne_top hS h1
  rw [hν]
  refine .inr ⟨ν, rfl, ?_, ?_⟩
  · rw [(h.rescale ν).1, sum_exp_real S hS ν, ← EReal.coe_add, ← add_mul]
  · rw [(h.rescale ν).2, sum_exp_mul_real S v vr hv hS ν, ← EReal.coe_add, ← add_mul]

/-- The quotient at the end. -/
theorem Stands.div {m l a : EReal} {Z A : ℝ} (h : Stands m l a Z A) (hZ : 0 < Z) :
    Ideal.div a l = ((A / Z : ℝ) : EReal) := by
  rcases h with ⟨_, _, _, hz, _⟩ | ⟨μ, _, rfl, rfl⟩
  · exact absurd hz (ne_of_gt hZ)
  · have he : (0 : ℝ) < Real.exp (-μ) := Real.exp_pos _
    rw [Ideal.div_coe (mul_pos hZ he).ne', ← EReal.coe_mul]
    congr 1
    field_simp

/-- The word of minus infinity. -/
theorem ofBits_ninf : Ideal.ofBits .f32 0xFF800000#32 = ⊥ := by simp [Ideal.ofBits, Ideal.ieee]

/-- A plain softmax row: the weights, each divided by their sum, times the values. -/
theorem softmax_row {n : ℕ} (S v : Fin n → EReal) (vr : Fin n → ℝ)
    (hv : ∀ k, v k = (vr k : EReal)) (hS : ∀ k, S k ≠ ⊤) (M : EReal) (ν : ℝ) (hM : M = (ν : EReal)) (hZ : 0 < ∑ k, ew (S k)) :
    (∑ k, Ideal.div (Ideal.exp (S k - M)) (∑ j, Ideal.exp (S j - M)) * v k)
      = (((∑ k, ew (S k) * vr k) / ∑ k, ew (S k) : ℝ) : EReal) := by
  subst hM
  have he : (0 : ℝ) < Real.exp (-ν) := Real.exp_pos _
  rw [sum_exp_real S hS ν, Finset.sum_div, ← coe_sum]
  refine Finset.sum_congr rfl fun k _ => ?_
  rw [exp_sub_real (hS k) ν, Ideal.div_coe (mul_pos hZ he).ne', hv k, ← EReal.coe_mul, ← EReal.coe_mul]
  congr 1
  field_simp

/-- Chunks of `n` make up one range. -/
theorem sum_chunks (n : ℕ) (F : ℕ → ℝ) (q : ℕ) :
    (∑ c ∈ Finset.range q, ∑ k : Fin n, F (n * c + k.val)) = ∑ s ∈ Finset.range (n * q), F s := by
  induction q with
  | zero => simp
  | succ q ih =>
    rw [Finset.sum_range_succ, ih, Nat.mul_succ, Finset.sum_range_add]
    congr 1
    exact (Finset.sum_range fun k => F (n * q + k)).symm

end Cert.Spec

end
-- ==== Proof.ScanMath.lean ====
/- The decayed sum of outer products in exact arithmetic: by blocks and step by step. -/
module

public import Idealize.ShloMosaic.PureOps.Ideal
public import proofs.«01_k».proof.Proof.Spec

@[expose] public section

noncomputable section

open Idealize.ShloMosaic

namespace Cert.Spec

section
variable {ι : Type} [Fintype ι] (g : ℝ) (w : ℕ → ι → ℝ)

/-- The state after `c` steps: the decayed sum of the outer products. -/
def mr (c : ℕ) (p q : ι) : ℝ := ∑ s ∈ Finset.range c, g ^ (c - 1 - s) * (w s p * w s q)

/-- The quadratic form of the state after `c` steps. -/
def qr (c : ℕ) (ρ : ι → ℝ) : ℝ := ∑ s ∈ Finset.range c, g ^ (c - 1 - s) * ((∑ p, w s p * ρ p) * (∑ p, w s p * ρ p))

theorem decay_add (c n : ℕ) (f : ℕ → ℝ) :
    (∑ s ∈ Finset.range (c + n), g ^ (c + n - 1 - s) * f s)
      = g ^ n * (∑ s ∈ Finset.range c, g ^ (c - 1 - s) * f s) + ∑ k ∈ Finset.range n, g ^ (n - 1 - k) * f (c + k) := by
  rw [Finset.sum_range_add, Finset.mul_sum]
  congr 1
  · refine Finset.sum_congr rfl fun s hs => ?_
    have hs' := Finset.mem_range.1 hs
    rw [← mul_assoc, ← pow_add]
    congr 2
    omega
  · refine Finset.sum_congr rfl fun k hk => ?_
    have hk' := Finset.mem_range.1 hk
    congr 2
    omega

theorem mr_zero (p q : ι) : mr g w 0 p q = 0 := by simp [mr]

theorem mr_add (c n : ℕ) (p q : ι) :
    mr g w (c + n) p q = g ^ n * mr g w c p q + ∑ k ∈ Finset.range n, g ^ (n - 1 - k) * (w (c + k) p * w (c + k) q) :=
  decay_add g c n fun s => w s p * w s q

theorem mr_succ (c : ℕ) (p q : ι) : mr g w (c + 1) p q = g * mr g w c p q + w c p * w c q := by
  rw [mr_add]; simp

theorem qr_add (c n : ℕ) (ρ : ι → ℝ) :
    qr g w (c + n) ρ = g ^ n * qr g w c ρ
      + ∑ k ∈ Finset.range n, g ^ (n - 1 - k) * ((∑ p, w (c + k) p * ρ p) * (∑ p, w (c + k) p * ρ p)) :=
  decay_add g c n fun s => (∑ p, w s p * ρ p) * (∑ p, w s p * ρ p)

/-- The state's quadratic form, summed over the steps. -/
theorem quad_mr (c : ℕ) (ρ : ι → ℝ) : (∑ p, (∑ q, mr g w c q p * ρ q) * ρ p) = qr g w c ρ := by
  unfold mr qr
  have h : ∀ s : ℕ, (∑ p, w s p * ρ p) * (∑ p, w s p * ρ p) = ∑ p, ∑ q, (w s q * w s p) * ρ q * ρ p := by
    intro s
    rw [Finset.sum_mul_sum, Finset.sum_comm]
    exact Finset.sum_congr rfl fun p _ => Finset.sum_congr rfl fun q _ => by ring
  simp only [h, Finset.sum_mul, Finset.mul_sum]
  calc _ = ∑ p, ∑ s ∈ Finset.range c, ∑ q, g ^ (c - 1 - s) * (w s q * w s p) * ρ q * ρ p :=
        Finset.sum_congr rfl fun p _ => Finset.sum_comm
    _ = ∑ s ∈ Finset.range c, ∑ p, ∑ q, g ^ (c - 1 - s) * (w s q * w s p) * ρ q * ρ p := Finset.sum_comm
    _ = _ := Finset.sum_congr rfl fun s _ => Finset.sum_congr rfl fun p _ => Finset.sum_congr rfl fun q _ => by ring

end

/-- A power as the exponential of a multiple of the logarithm, zero included. -/
theorem exp_mul_log {g : ℝ} (hg : 0 ≤ g) (n : ℕ) :
    Ideal.exp (((n : ℝ) : EReal) * Ideal.log (g : EReal)) = ((g ^ n : ℝ) : EReal) := by
  rw [Ideal.log_coe]
  split
  · rename_i h
    have hg0 : g = 0 := le_antisymm h hg
    subst hg0
    rcases Nat.eq_zero_or_pos n with rfl | hn
    · have h0 : Ideal.exp 0 = 1 := by
        rw [show (0 : EReal) = ((0 : ℝ) : EReal) from rfl, Ideal.exp_coe, Real.exp_zero]
        rfl
      simpa using h0
    · have hn' : (0 : ℝ) < (n : ℝ) := by exact_mod_cast hn
      rw [EReal.coe_mul_bot_of_pos hn', Ideal.exp_bot, zero_pow hn.ne', EReal.coe_zero]
  · rename_i h
    rw [← EReal.coe_mul, Ideal.exp_coe, mul_comm, Real.exp_mul, Real.exp_log (not_le.1 h), Real.rpow_natCast]

end Cert.Spec

end
-- ==== Proof.Common.lean ====
/- The quantities both programs compute, as functions of the fifteen arguments. -/
module

public import proofs.«01_k».proof.Proof.LineMath
public import proofs.«01_k».proof.Proof.AttnMath
public import proofs.«01_k».proof.Proof.ScanMath
public import Idealize.ShloMosaic.Lib.Pointwise

@[expose] public section

set_option maxRecDepth 16384

noncomputable section

open Idealize.ShloMosaic Idealize.ShloMosaic.TcCoe

namespace Cert.Spec

/-- The fifteen arguments by their coordinates. -/
structure Inp where
  X : Fin 2 → Fin 2048 → Fin 1024 → EReal
  Wq : Fin 1024 → Fin 3072 → EReal
  bq : Fin 3072 → EReal
  W1w : Fin 1024 → Fin 64 → EReal
  W2w : Fin 1024 → Fin 64 → EReal
  W1r : Fin 1024 → Fin 64 → EReal
  W2r : Fin 1024 → Fin 64 → EReal
  Wmv : Fin 1024 → Fin 1024 → EReal
  bmv : Fin 1024 → EReal
  Wg : Fin 1024 → Fin 16 → EReal
  bg : Fin 16 → EReal
  ms : Fin 16 → EReal
  Wo : Fin 1024 → Fin 1024 → EReal
  bo : Fin 1024 → EReal
  A : Fin 16 → Fin 6 → Fin 6 → EReal

/-- A dense layer without a bias. -/
def lin {N : ℕ} (Y : Fin 2 → Fin 2048 → Fin 1024 → EReal) (W : Fin 1024 → Fin N → EReal) (b : Fin 2) (t : Fin 2048) (n : Fin N) : EReal :=
  ∑ k : Fin 1024, Y b t k * W k n

/-- A dense layer with a bias. -/
def aff {N : ℕ} (Y : Fin 2 → Fin 2048 → Fin 1024 → EReal) (W : Fin 1024 → Fin N → EReal) (v : Fin N → EReal) (b : Fin 2) (t : Fin 2048)
    (n : Fin N) : EReal :=
  (∑ k : Fin 1024, Y b t k * W k n) + v n

/-- The tokens one step back, zero before the first. -/
def prv (Y : Fin 2 → Fin 2048 → Fin 1024 → EReal) (b : Fin 2) (t : Fin 2048) (k : Fin 1024) : EReal :=
  if h : t.val < 1 then 0 else Y b ⟨t.val - 1, by have := t.isLt; omega⟩ k

/-- The head's four columns of a dense layer. -/
def four (L : Fin 64 → EReal) (h : Fin 16) (j : Fin 4) : EReal :=
  L ⟨h.val * 4 + j.val, by have := h.isLt; have := j.isLt; omega⟩

/-- The head's sixty-four columns of the joint projection from column `o` on. -/
def hcol (o : ℕ) (ho : o + 1024 ≤ 3072) (h : Fin 16) (d : Fin 64) : Fin 3072 :=
  ⟨o + h.val * 64 + d.val, by have := h.isLt; have := d.isLt; omega⟩

namespace Inp
variable (I : Inp)

/-- Queries, keys and values by head. -/
def q (b : Fin 2) (h : Fin 16) (t : Fin 2048) (d : Fin 64) : EReal :=
  aff I.X I.Wq I.bq b t ⟨h.val * 64 + d.val, by have := h.isLt; have := d.isLt; omega⟩
def k (b : Fin 2) (h : Fin 16) (t : Fin 2048) (d : Fin 64) : EReal := aff I.X I.Wq I.bq b t (hcol 1024 (by decide) h d)
def v (b : Fin 2) (h : Fin 16) (t : Fin 2048) (d : Fin 64) : EReal := aff I.X I.Wq I.bq b t (hcol 2048 (by decide) h d)

/-- The two points of the written line and of the read line. -/
def wa (b : Fin 2) (h : Fin 16) (t : Fin 2048) : Fin 4 → EReal := four (fun n => lin (prv I.X) I.W1w b t n) h
def wb (b : Fin 2) (h : Fin 16) (t : Fin 2048) : Fin 4 → EReal := four (fun n => lin I.X I.W2w b t n) h
def ra (b : Fin 2) (h : Fin 16) (t : Fin 2048) : Fin 4 → EReal := four (fun n => lin I.X I.W1r b t n) h
def rb (b : Fin 2) (h : Fin 16) (t : Fin 2048) : Fin 4 → EReal := four (fun n => lin I.X I.W2r b t n) h

end Inp

/-- The causal score of row `t` against key `s`: minus infinity for a later key. -/
def score (Q K : Fin 2048 → Fin 64 → EReal) (t s : Fin 2048) : EReal :=
  if t < s then ⊥ else (∑ d : Fin 64, Q t d * K s d) * Ideal.ofBits .f32 0x3E000000#32

namespace Inp
variable (I : Inp)

/-- The attention's entry. -/
def seqE (b : Fin 2) (h : Fin 16) (t : Fin 2048) (d : Fin 64) : EReal :=
  (((∑ s, ew (score (I.q b h) (I.k b h) t s) * (I.v b h s d).toReal) / ∑ s, ew (score (I.q b h) (I.k b h) t s) : ℝ) : EReal)

/-- The rows of the written lines, by step. -/
def wrow (b : Fin 2) (h : Fin 16) (s : ℕ) (p : Fin 8) : ℝ :=
  if hs : s < 2048 then (jrow (I.wa b h ⟨s, hs⟩) (I.wb b h ⟨s, hs⟩) p.val).toReal else 0

/-- The rows of the read lines, by step. -/
def rrw (b : Fin 2) (h : Fin 16) (s : ℕ) (p : Fin 8) : ℝ :=
  if hs : s < 2048 then (rrow (I.ra b h ⟨s, hs⟩) (I.rb b h ⟨s, hs⟩) p.val).toReal else 0

/-- The memory's score. -/
def memE (b : Fin 2) (h : Fin 16) (t : Fin 2048) : EReal :=
  ((qr ((I.A 0 0 0).toReal * (I.A 0 0 0).toReal) (I.wrow b h) t.val (I.rrw b h t.val) : ℝ) : EReal)

/-- The gate of a token. -/
def gateE (b : Fin 2) (t : Fin 2048) : EReal :=
  Ideal.div (∑ h : Fin 16, Ideal.div 1 (1 + Ideal.exp (-(I.memE b h t * I.ms h)))
    * Ideal.div 1 (1 + Ideal.exp (-(aff I.X I.Wg I.bg b t h)))) (Ideal.ofBits .f32 0x41800000#32)

/-- The result's entry. -/
def out (b : Fin 2) (t : Fin 2048) (n : Fin 1024) : EReal :=
  (∑ k : Fin 1024, (I.seqE b ⟨k.val / 64, by have := k.isLt; omega⟩ t ⟨k.val % 64, Nat.mod_lt _ (by decide)⟩
    + I.gateE b t * aff I.X I.Wmv I.bmv b t k) * I.Wo k n) + I.bo n

/-- What the claim assumes: finite tokens and joint projection, and one finite scalar on the diagonal of every matrix. -/
structure Good : Prop where
  X : ∀ b t k, ∃ ρ : ℝ, I.X b t k = ↑ρ
  Wq : ∀ k n, ∃ ρ : ℝ, I.Wq k n = ↑ρ
  bq : ∀ n, ∃ ρ : ℝ, I.bq n = ↑ρ
  a : ∃ ρ : ℝ, I.A 0 0 0 = ↑ρ
  A : ∀ h p q, I.A h p q = if p = q then I.A 0 0 0 else 0

end Inp

end Cert.Spec
end
-- ==== Proof.KerHost.lean ====
/- The idealized kernel, its host stretches read at an index. -/
module

public import proofs.«01_k».proof.Proof.Gen.KernelIdeal.Frame
public import Idealize.ShloMosaic.Lib.StableHlo.RunRead
public import Idealize.ShloMosaic.Lib.Pipeline.ValueKit
public import Idealize.ShloMosaic.Lib.Pointwise
public import proofs.«01_k».proof.Proof.Common

@[expose] public section

set_option maxRecDepth 16384

noncomputable section

open Idealize.ShloMosaic Idealize.ShloMosaic.TcCoe Idealize.ShloMosaic.StableHlo Idealize.SL.Sem

namespace Cert.KernelIdeal.Value

open Cert.KernelIdeal Cert.KernelIdeal.Gen Cert.Spec

variable (V : Valuation τ sig (Elt Ideal))

abbrev a0 (V : Valuation τ sig (Elt Ideal)) (i : S2x2048x1024.Idx) : EReal := V (Proc.devRef .tc main_arg0) i
abbrev a1 (V : Valuation τ sig (Elt Ideal)) (i : S1024x3072.Idx) : EReal := V (Proc.devRef .tc main_arg1) i
abbrev a2 (V : Valuation τ sig (Elt Ideal)) (i : S3072.Idx) : EReal := V (Proc.devRef .tc main_arg2) i
abbrev a3 (V : Valuation τ sig (Elt Ideal)) (i : S1024x64.Idx) : EReal := V (Proc.devRef .tc main_arg3) i
abbrev a4 (V : Valuation τ sig (Elt Ideal)) (i : S1024x64.Idx) : EReal := V (Proc.devRef .tc main_arg4) i
abbrev a5 (V : Valuation τ sig (Elt Ideal)) (i : S1024x64.Idx) : EReal := V (Proc.devRef .tc main_arg5) i
abbrev a6 (V : Valuation τ sig (Elt Ideal)) (i : S1024x64.Idx) : EReal := V (Proc.devRef .tc main_arg6) i
abbrev a7 (V : Valuation τ sig (Elt Ideal)) (i : S1024x1024.Idx) : EReal := V (Proc.devRef .tc main_arg7) i
abbrev a8 (V : Valuation τ sig (Elt Ideal)) (i : S1024.Idx) : EReal := V (Proc.devRef .tc main_arg8) i
abbrev a9 (V : Valuation τ sig (Elt Ideal)) (i : S1024x16.Idx) : EReal := V (Proc.devRef .tc main_arg9) i
abbrev a10 (V : Valuation τ sig (Elt Ideal)) (i : S16.Idx) : EReal := V (Proc.devRef .tc main_arg10) i
abbrev a11 (V : Valuation τ sig (Elt Ideal)) (i : S16.Idx) : EReal := V (Proc.devRef .tc main_arg11) i
abbrev a13 (V : Valuation τ sig (Elt Ideal)) (i : S1024.Idx) : EReal := V (Proc.devRef .tc main_arg13) i
abbrev a14 (V : Valuation τ sig (Elt Ideal)) (i : S16x6x6.Idx) : EReal := V (Proc.devRef .tc main_arg14) i
abbrev b11_0 (V : Valuation τ sig (Elt Ideal)) (i : S4096x1024.Idx) : EReal := V (Proc.devRef .tc main_v11_0) i
abbrev b11_1 (V : Valuation τ sig (Elt Ideal)) (i : S4096x1024.Idx) : EReal := V (Proc.devRef .tc main_v11_1) i
abbrev b11_2 (V : Valuation τ sig (Elt Ideal)) (i : S4096x1024.Idx) : EReal := V (Proc.devRef .tc main_v11_2) i
abbrev b11_3 (V : Valuation τ sig (Elt Ideal)) (i : S4096x272.Idx) : EReal := V (Proc.devRef .tc main_v11_3) i
abbrev b15 (V : Valuation τ sig (Elt Ideal)) (i : S2x2048x16x1x64.Idx) : EReal := V (Proc.devRef .tc main_v15) i
abbrev b35_0 (V : Valuation τ sig (Elt Ideal)) (i : S2x128x2048.Idx) : EReal := V (Proc.devRef .tc main_v35_0) i
abbrev b35_1 (V : Valuation τ sig (Elt Ideal)) (i : S2x128x2048.Idx) : EReal := V (Proc.devRef .tc main_v35_1) i
abbrev b44 (V : Valuation τ sig (Elt Ideal)) (i : S32x1x2048.Idx) : EReal := V (Proc.devRef .tc main_v44) i
abbrev b50 (V : Valuation τ sig (Elt Ideal)) (i : S4096x1024.Idx) : EReal := V (Proc.devRef .tc main_v50) i

/-- The batch and the token of a flattened row, and back. -/
abbrev rb (r : Fin 4096) : Fin 2 := ⟨r.val / 2048, by have := r.isLt; omega⟩
abbrev rt (r : Fin 4096) : Fin 2048 := ⟨r.val % 2048, Nat.mod_lt _ (by decide)⟩
abbrev row (b : Fin 2) (t : Fin 2048) : Fin 4096 := ⟨b.val * 2048 + t.val, by have := b.isLt; have := t.isLt; omega⟩

theorem h0_v1 (r : Fin 4096) (k : Fin 1024) : (after hostOps0 V (Proc.devRef .tc main_v1) : FVec Ideal S4096x1024 .bf16) (ix2 r k)
    = a0 V (ix3 (rb r) (rt r) k) := by
  after_reads_simp
  pointwise
theorem h0_v6 (k : Fin 1024) (n : Fin 3072) : (after hostOps0 V (Proc.devRef .tc main_v6) : FVec Ideal S1024x3072 .bf16) (ix2 k n) = a1 V (ix2 k n) := by
  after_reads_simp
  pointwise
theorem h0_v7 (n : Fin 3072) : (after hostOps0 V (Proc.devRef .tc main_v7) : FVec Ideal S1x3072 .f32) (ix2 0 n) = a2 V (ix1 n) := by
  after_reads_simp
  pointwise
theorem h0_v9 (k n : Fin 1024) : (after hostOps0 V (Proc.devRef .tc main_v9) : FVec Ideal S1024x1024 .bf16) (ix2 k n) = a7 V (ix2 k n) := by
  after_reads_simp
  pointwise
theorem h0_v10 (n : Fin 1024) : (after hostOps0 V (Proc.devRef .tc main_v10) : FVec Ideal S1x1024 .f32) (ix2 0 n) = a8 V (ix1 n) := by
  after_reads_simp
  pointwise
theorem h0_v8 (k : Fin 1024) (n : Fin 272) : (after hostOps0 V (Proc.devRef .tc main_v8) : FVec Ideal S1024x272 .bf16) (ix2 k n)
    = if h : n.val < 64 then a3 V (ix2 k ⟨n.val, h⟩) else if h1 : n.val - 64 < 64 then a4 V (ix2 k ⟨n.val - 64, h1⟩)
      else if h2 : n.val - 64 - 64 < 64 then a5 V (ix2 k ⟨n.val - 64 - 64, h2⟩)
      else if h3 : n.val - 64 - 64 - 64 < 64 then a6 V (ix2 k ⟨n.val - 64 - 64 - 64, h3⟩)
      else a9 V (ix2 k ⟨n.val - 64 - 64 - 64 - 64, by have := n.isLt; omega⟩) := by
  after_reads_simp
  pointwise
  after_reads_simp
  try rfl
theorem h0_v5 (n : Fin 272) : (after hostOps0 V (Proc.devRef .tc main_v5) : FVec Ideal S1x272 .f32) (ix2 0 n)
    = if h : n.val < 256 then 0 else a10 V (ix1 ⟨n.val - 256, by have := n.isLt; omega⟩) := by
  after_reads_simp
  pointwise
  after_reads_simp
  pointwise
theorem h1_v12 (b : Fin 2) (t : Fin 2048) (h : Fin 16) (d : Fin 64) :
    (after hostOps1 V (Proc.devRef .tc main_v12) : FVec Ideal S2x2048x16x1x64 .bf16) (ix5 b t h 0 d)
      = b11_0 V (ix2 (row b t) ⟨h.val * 64 + d.val, by have := h.isLt; have := d.isLt; omega⟩) := by
  after_reads_simp
  pointwise
theorem h1_v13 (b : Fin 2) (t : Fin 2048) (h : Fin 16) (d : Fin 64) :
    (after hostOps1 V (Proc.devRef .tc main_v13) : FVec Ideal S2x2048x16x1x64 .bf16) (ix5 b t h 0 d)
      = b11_1 V (ix2 (row b t) ⟨h.val * 64 + d.val, by have := h.isLt; have := d.isLt; omega⟩) := by
  after_reads_simp
  pointwise
theorem h1_v14 (b : Fin 2) (t : Fin 2048) (h : Fin 16) (d : Fin 64) :
    (after hostOps1 V (Proc.devRef .tc main_v14) : FVec Ideal S2x2048x16x1x64 .bf16) (ix5 b t h 0 d)
      = b11_2 V (ix2 (row b t) ⟨h.val * 64 + d.val, by have := h.isLt; have := d.isLt; omega⟩) := by
  after_reads_simp
  pointwise
theorem h2_v16 (r : Fin 4096) (n : Fin 1024) : (after hostOps2 V (Proc.devRef .tc main_v16) : FVec Ideal S4096x1024 .f32) (ix2 r n)
    = b15 V (ix5 (rb r) (rt r) ⟨n.val / 64, by have := n.isLt; omega⟩ 0 ⟨n.val % 64, Nat.mod_lt _ (by decide)⟩) := by
  after_reads_simp
  pointwise
theorem h2_v28 (r : Fin 4096) (h : Fin 16) : (after hostOps2 V (Proc.devRef .tc main_v28) : FVec Ideal S4096x16 .f32) (ix2 r h)
    = b11_3 V (ix2 r ⟨256 + h.val, by have := h.isLt; omega⟩) := by
  after_reads_simp
  pointwise
theorem h2_v18 (b : Fin 2) (t : Fin 2048) (h : Fin 16) (e : Fin 4) : (after hostOps2 V (Proc.devRef .tc main_v18) : FVec Ideal S2x2048x16x4 .f32) (ix4 b t h e)
    = b11_3 V (ix2 (row b t) ⟨h.val * 4 + e.val, by have := h.isLt; have := e.isLt; omega⟩) := by
  after_reads_simp
  pointwise
theorem h2_v23 (b : Fin 2) (t : Fin 2048) (h : Fin 16) (e : Fin 4) : (after hostOps2 V (Proc.devRef .tc main_v23) : FVec Ideal S2x2048x16x4 .f32) (ix4 b t h e)
    = b11_3 V (ix2 (row b t) ⟨64 + (h.val * 4 + e.val), by have := h.isLt; have := e.isLt; omega⟩) := by
  after_reads_simp
  pointwise
theorem h2_v25 (b : Fin 2) (t : Fin 2048) (h : Fin 16) (e : Fin 4) : (after hostOps2 V (Proc.devRef .tc main_v25) : FVec Ideal S2x2048x16x4 .f32) (ix4 b t h e)
    = b11_3 V (ix2 (row b t) ⟨128 + (h.val * 4 + e.val), by have := h.isLt; have := e.isLt; omega⟩) := by
  after_reads_simp
  pointwise
theorem h2_v27 (b : Fin 2) (t : Fin 2048) (h : Fin 16) (e : Fin 4) : (after hostOps2 V (Proc.devRef .tc main_v27) : FVec Ideal S2x2048x16x4 .f32) (ix4 b t h e)
    = b11_3 V (ix2 (row b t) ⟨192 + (h.val * 4 + e.val), by have := h.isLt; have := e.isLt; omega⟩) := by
  after_reads_simp
  pointwise
theorem h3_v42 (g : Fin 32) (p : Fin 8) (s : Fin 2048) : (after hostOps3 V (Proc.devRef .tc main_v42) : FVec Ideal S32x8x2048 .f32) (ix3 g p s)
    = b35_0 V (ix3 ⟨g.val / 16, by have := g.isLt; omega⟩ ⟨g.val % 16 * 8 + p.val, by have := p.isLt; omega⟩ s) := by
  after_reads_simp
  pointwise
theorem h3_v43 (g : Fin 32) (p : Fin 8) (s : Fin 2048) : (after hostOps3 V (Proc.devRef .tc main_v43) : FVec Ideal S32x8x2048 .f32) (ix3 g p s)
    = b35_1 V (ix3 ⟨g.val / 16, by have := g.isLt; omega⟩ ⟨g.val % 16 * 8 + p.val, by have := p.isLt; omega⟩ s) := by
  after_reads_simp
  pointwise
theorem h3_v41 : (after hostOps3 V (Proc.devRef .tc main_v41) : FVec Ideal S1x1 .f32) (ix2 0 0) = a14 V (ix3 0 0 0) * a14 V (ix3 0 0 0) := by
  after_reads_simp
  pointwise
theorem h4_v47 (r : Fin 4096) (h : Fin 16) : (after hostOps4 V (Proc.devRef .tc main_v47) : FVec Ideal S4096x16 .f32) (ix2 r h)
    = b44 V (ix3 ⟨r.val / 2048 * 16 + h.val, by have := r.isLt; have := h.isLt; omega⟩ 0 (rt r)) := by
  after_reads_simp
  pointwise
theorem h4_v48 (h : Fin 16) : (after hostOps4 V (Proc.devRef .tc main_v48) : FVec Ideal S1x16 .f32) (ix2 0 h) = a11 V (ix1 h) := by
  after_reads_simp
  pointwise
theorem h4_v49 (n : Fin 1024) : (after hostOps4 V (Proc.devRef .tc main_v49) : FVec Ideal S1x1024 .f32) (ix2 0 n) = a13 V (ix1 n) := by
  after_reads_simp
  pointwise
theorem h5_v51 (b : Fin 2) (t : Fin 2048) (n : Fin 1024) : (after hostOps5 V (Proc.devRef .tc main_v51) : FVec Ideal S2x2048x1024 .f32) (ix3 b t n)
    = b50 V (ix2 (row b t) n) := by
  after_reads_simp
  pointwise

/-! ### The concatenations, as facts of arrays -/

theorem h2_v21 (b : Fin 2) (t : Fin 2048) (h : Fin 16) (e : Fin 4) : (after hostOps2 V (Proc.devRef .tc main_v21) : FVec Ideal S2x2048x16x4 .f32) (ix4 b t h e)
    = if ht : t.val < 1 then 0 else b11_3 V (ix2 ⟨b.val * 2048 + (t.val - 1), by have := b.isLt; have := t.isLt; omega⟩
        ⟨h.val * 4 + e.val, by have := h.isLt; have := e.isLt; omega⟩) := by
  after_reads_simp
  pointwise

theorem h2_v31 (b : Fin 2) (r : Fin 128) (t : Fin 2048) : (after hostOps2 V (Proc.devRef .tc main_v31) : FVec Ideal S2x128x2048 .f32) (ix3 b r t)
    = if hr : r.val % 8 < 4 then
        if ht : t.val < 1 then 0 else b11_3 V (ix2 ⟨b.val * 2048 + (t.val - 1), by have := b.isLt; have := t.isLt; omega⟩
          ⟨r.val / 8 * 4 + r.val % 8, by have := r.isLt; omega⟩)
      else b11_3 V (ix2 ⟨b.val * 2048 + t.val, by have := b.isLt; have := t.isLt; omega⟩
          ⟨64 + (r.val / 8 * 4 + (r.val % 8 - 4)), by have := r.isLt; omega⟩) := by
  after_reads_simp
  pointwise
  after_reads_simp
  pointwise

theorem h2_v34 (b : Fin 2) (r : Fin 128) (t : Fin 2048) : (after hostOps2 V (Proc.devRef .tc main_v34) : FVec Ideal S2x128x2048 .f32) (ix3 b r t)
    = if hr : r.val % 8 < 4 then b11_3 V (ix2 ⟨b.val * 2048 + t.val, by have := b.isLt; have := t.isLt; omega⟩
          ⟨128 + (r.val / 8 * 4 + r.val % 8), by have := r.isLt; omega⟩)
      else b11_3 V (ix2 ⟨b.val * 2048 + t.val, by have := b.isLt; have := t.isLt; omega⟩
          ⟨192 + (r.val / 8 * 4 + (r.val % 8 - 4)), by have := r.isLt; omega⟩) := by
  after_reads_simp
  pointwise
  after_reads_simp
  pointwise

end Cert.KernelIdeal.Value
end
-- ==== Proof.Region1.lean ====
/- Call 1 (causal attention): the result array as a function of the arrays the call reads. -/
module

public import proofs.«01_k».proof.Proof.Gen.KernelIdeal.Frame
public import Idealize.ShloMosaic.Lib.Pipeline.ValueKit
public import Idealize.ShloMosaic.Lib.Pointwise
public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Spec

variable (V : (c : Dev nD) → (b : Ref sig .tc) → Buf (Elt Ideal) (c.tc.loc b))

section
variable (Q K W : Fin 2048 → Fin 64 → EReal)

/-- The scaled score of row `qo + r` against key `ko + k`. -/
def offS (qo ko : ℕ) (hq : qo + 512 ≤ 2048) (hk : ko + 512 ≤ 2048) (r k : Fin 512) : EReal :=
  (∑ d : Fin 64, Q ⟨qo + r.val, lt_of_lt_of_le (Nat.add_lt_add_left r.isLt qo) hq⟩ d
    * K ⟨ko + k.val, lt_of_lt_of_le (Nat.add_lt_add_left k.isLt ko) hk⟩ d)
    * Ideal.ofBits .f32 0x3E000000#32

/-- The value of a masked score, also the first running maximum. -/
def mask0 : EReal := Named.named (F := Ideal) (φ := .f32) κ "mask" 0xF149F2CA#32

/-- The score on the diagonal block: later keys are masked. -/
def diagS (qo : ℕ) (hq : qo + 512 ≤ 2048) (r k : Fin 512) : EReal :=
  Scalar.select (IntOp.cmpi CmpIPredicate.sgt (BitVec.ofNat 32 k.val) (BitVec.ofNat 32 r.val))
    mask0 (offS Q K qo qo hq hq r k)

/-- The running maximum after a chunk of scores. -/
def mStep (m : EReal) (S : Fin 512 → EReal) : EReal :=
  max m (Finset.fold max (Ideal.ofBits .f32 0xFF800000#32) (fun k => S k) Finset.univ)

/-- The running normaliser after a chunk of scores. -/
def lStep (m l : EReal) (S : Fin 512 → EReal) : EReal :=
  l * Ideal.exp (m - mStep m S) + ∑ k : Fin 512, Ideal.exp (S k - mStep m S)

/-- The running weighted sum after a chunk of scores. -/
def aStep (m a : EReal) (S v : Fin 512 → EReal) : EReal :=
  a * Ideal.exp (m - mStep m S) + ∑ k : Fin 512, Ideal.exp (S k - mStep m S) * v k

/-- The values of a chunk of keys. -/
def vals (ko : ℕ) (hk : ko + 512 ≤ 2048) (d : Fin 64) (k : Fin 512) : EReal :=
  W ⟨ko + k.val, lt_of_lt_of_le (Nat.add_lt_add_left k.isLt ko) hk⟩ d

/-- Chunk `n` of the scores of row `512 q + r`. -/
def chS (q : ℕ) (hq : 512 * q + 512 ≤ 2048) (r : Fin 512) (n : ℕ) : Fin 512 → EReal :=
  if hn : 512 * n + 512 ≤ 2048 then
    if n = q then diagS Q K (512 * q) hq r else offS Q K (512 * q) (512 * n) hq hn r
  else fun _ => 0

/-- Chunk `n` of the values. -/
def chV (d : Fin 64) (n : ℕ) : Fin 512 → EReal :=
  if hn : 512 * n + 512 ≤ 2048 then vals W (512 * n) hn d else fun _ => 0

/-- The running maximum after `n` chunks. -/
def mAt (S : ℕ → Fin 512 → EReal) : ℕ → EReal
  | 0 => mask0
  | n + 1 => mStep (mAt S n) (S n)

/-- The running normaliser after `n` chunks. -/
def lAt (S : ℕ → Fin 512 → EReal) : ℕ → EReal
  | 0 => 0
  | n + 1 => lStep (mAt S n) (lAt S n) (S n)

/-- The running weighted sum after `n` chunks. -/
def aAt (S v : ℕ → Fin 512 → EReal) : ℕ → EReal
  | 0 => 0
  | n + 1 => aStep (mAt S n) (aAt S v n) (S n) (v n)

/-- Entry `d` of row `512 q + r` of the attention. -/
def attQ (q : ℕ) (hq : 512 * q + 512 ≤ 2048) (r : Fin 512) (d : Fin 64) : EReal :=
  Ideal.div (aAt (chS Q K q hq r) (chV W d) (q + 1)) (lAt (chS Q K q hq r) (q + 1))

theorem att_bound (t : Fin 2048) : 512 * (t.val / 512) + 512 ≤ 2048 := by omega

/-- Entry `d` of row `t` of the attention. -/
def att (t : Fin 2048) (d : Fin 64) : EReal :=
  attQ Q K W (t.val / 512) (att_bound t) ⟨t.val % 512, Nat.mod_lt _ (by decide)⟩ d

theorem att_of (t : Fin 2048) (q : ℕ) (hq : 512 * q + 512 ≤ 2048) (r : Fin 512) (d : Fin 64)
    (h : t.val = 512 * q + r.val) : att Q K W t d = attQ Q K W q hq r d := by
  have h1 : t.val / 512 = q := by omega
  have h2 : (⟨t.val % 512, Nat.mod_lt _ (by decide)⟩ : Fin 512) = r := Fin.ext (by show _ % _ = _; omega)
  subst h1
  rw [att, h2]

end

section
variable (x0 x1 x2 : Vec Ideal S1x2048x1x1x64 .bf16)

/-- A block as rows of one head. -/
def hd (x : Vec Ideal S1x2048x1x1x64 .bf16) (t : Fin 2048) (d : Fin 64) : EReal := x (ix5 0 t 0 0 d)

theorem piece0 (r : Fin 512) (d : Fin 64) : k1_pay13 (F := Ideal) (k1_pay5 (View.ld x2 r1_0)) (k1_pay10 (View.ld x1 r1_0) (View.ld x0 r1_1)) (k1_pay11 (View.ld x1 r1_0) (View.ld x0 r1_1)) (k1_pay12 (View.ld x1 r1_0) (View.ld x0 r1_1)) (constant (F := Ideal) S512x64 .f32 0x00000000#32) (ix5 0 r 0 0 d) =
    Ideal.div (aStep mask0 0 (diagS (hd x0) (hd x1) 0 (by decide) r) (vals (hd x2) 0 (by decide) d))
    (lStep mask0 0 (diagS (hd x0) (hd x1) 0 (by decide) r)) := by
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, aStep, lStep, mStep,
    offS, diagS, mask0, vals, hd]

theorem attQ0 (r : Fin 512) (d : Fin 64) : attQ (hd x0) (hd x1) (hd x2) 0 (by decide) r d =
    Ideal.div (aStep mask0 0 (diagS (hd x0) (hd x1) 0 (by decide) r) (vals (hd x2) 0 (by decide) d))
    (lStep mask0 0 (diagS (hd x0) (hd x1) 0 (by decide) r)) := by
  simp only [attQ, aAt, lAt, mAt, chS, chV, Nat.reduceMul, Nat.reduceAdd, Nat.reduceLeDiff,
    Nat.reduceEqDiff, if_true, if_false, dite_true]

theorem piece1 (r : Fin 512) (d : Fin 64) : k1_pay24 (F := Ideal) (k1_pay17 (k1_pay67 x0 x1 x2) (View.ld x0 r1_2)) (k1_pay20 (k1_pay67 x0 x1 x2) (View.ld x0 r1_2)) (k1_pay21 (k1_pay67 x0 x1 x2) (k1_pay68 x0 x1 x2) (View.ld x0 r1_2)) (k1_pay22 (k1_pay68 x0 x1 x2)) (k1_pay23 (k1_pay67 x0 x1 x2) (View.ld x0 r1_2)) (ix5 0 r 0 0 d) =
    Ideal.div (aStep (mStep mask0 (offS (hd x0) (hd x1) 512 0 (by decide) (by decide) r)) (aStep mask0 0 (offS (hd x0) (hd x1) 512 0 (by decide) (by decide) r) (vals (hd x2) 0 (by decide) d)) (diagS (hd x0) (hd x1) 512 (by decide) r) (vals (hd x2) 512 (by decide) d))
    (lStep (mStep mask0 (offS (hd x0) (hd x1) 512 0 (by decide) (by decide) r)) (lStep mask0 0 (offS (hd x0) (hd x1) 512 0 (by decide) (by decide) r)) (diagS (hd x0) (hd x1) 512 (by decide) r)) := by
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, aStep, lStep, mStep,
    offS, diagS, mask0, vals, hd]

theorem attQ1 (r : Fin 512) (d : Fin 64) : attQ (hd x0) (hd x1) (hd x2) 1 (by decide) r d =
    Ideal.div (aStep (mStep mask0 (offS (hd x0) (hd x1) 512 0 (by decide) (by decide) r)) (aStep mask0 0 (offS (hd x0) (hd x1) 512 0 (by decide) (by decide) r) (vals (hd x2) 0 (by decide) d)) (diagS (hd x0) (hd x1) 512 (by decide) r) (vals (hd x2) 512 (by decide) d))
    (lStep (mStep mask0 (offS (hd x0) (hd x1) 512 0 (by decide) (by decide) r)) (lStep mask0 0 (offS (hd x0) (hd x1) 512 0 (by decide) (by decide) r)) (diagS (hd x0) (hd x1) 512 (by decide) r)) := by
  simp only [attQ, aAt, lAt, mAt, chS, chV, Nat.reduceMul, Nat.reduceAdd, Nat.reduceLeDiff,
    Nat.reduceEqDiff, if_true, if_false, dite_true]

theorem piece2 (r : Fin 512) (d : Fin 64) : k1_pay44 (F := Ideal) (k1_pay36 (k1_pay67 x0 x1 x2) (k1_pay69 x0 x1 x2) (k1_pay70 x0 x1 x2) (k1_pay72 x0 x1 x2)) (k1_pay39 (k1_pay67 x0 x1 x2) (k1_pay69 x0 x1 x2) (k1_pay70 x0 x1 x2) (k1_pay27 (F := Ideal)) (k1_pay71 x0 x1 x2) (k1_pay72 x0 x1 x2)) (k1_pay40 (k1_pay67 x0 x1 x2) (k1_pay68 x0 x1 x2) (k1_pay69 x0 x1 x2) (k1_pay70 x0 x1 x2) (k1_pay28 (F := Ideal)) (k1_pay29 (k1_pay68 x0 x1 x2)) (k1_pay71 x0 x1 x2) (k1_pay72 x0 x1 x2)) (k1_pay41 (k1_pay68 x0 x1 x2)) (k1_pay42 (k1_pay67 x0 x1 x2) (k1_pay69 x0 x1 x2)) (k1_pay43 (k1_pay67 x0 x1 x2) (k1_pay69 x0 x1 x2)) (ix5 0 r 0 0 d) =
    Ideal.div (aStep (mStep (mStep mask0 (offS (hd x0) (hd x1) 1024 0 (by decide) (by decide) r)) (offS (hd x0) (hd x1) 1024 512 (by decide) (by decide) r)) (aStep (mStep mask0 (offS (hd x0) (hd x1) 1024 0 (by decide) (by decide) r)) (aStep mask0 0 (offS (hd x0) (hd x1) 1024 0 (by decide) (by decide) r) (vals (hd x2) 0 (by decide) d)) (offS (hd x0) (hd x1) 1024 512 (by decide) (by decide) r) (vals (hd x2) 512 (by decide) d)) (diagS (hd x0) (hd x1) 1024 (by decide) r) (vals (hd x2) 1024 (by decide) d))
    (lStep (mStep (mStep mask0 (offS (hd x0) (hd x1) 1024 0 (by decide) (by decide) r)) (offS (hd x0) (hd x1) 1024 512 (by decide) (by decide) r)) (lStep (mStep mask0 (offS (hd x0) (hd x1) 1024 0 (by decide) (by decide) r)) (lStep mask0 0 (offS (hd x0) (hd x1) 1024 0 (by decide) (by decide) r)) (offS (hd x0) (hd x1) 1024 512 (by decide) (by decide) r)) (diagS (hd x0) (hd x1) 1024 (by decide) r)) := by
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, aStep, lStep, mStep,
    offS, diagS, mask0, vals, hd]

theorem attQ2 (r : Fin 512) (d : Fin 64) : attQ (hd x0) (hd x1) (hd x2) 2 (by decide) r d =
    Ideal.div (aStep (mStep (mStep mask0 (offS (hd x0) (hd x1) 1024 0 (by decide) (by decide) r)) (offS (hd x0) (hd x1) 1024 512 (by decide) (by decide) r)) (aStep (mStep mask0 (offS (hd x0) (hd x1) 1024 0 (by decide) (by decide) r)) (aStep mask0 0 (offS (hd x0) (hd x1) 1024 0 (by decide) (by decide) r) (vals (hd x2) 0 (by decide) d)) (offS (hd x0) (hd x1) 1024 512 (by decide) (by decide) r) (vals (hd x2) 512 (by decide) d)) (diagS (hd x0) (hd x1) 1024 (by decide) r) (vals (hd x2) 1024 (by decide) d))
    (lStep (mStep (mStep mask0 (offS (hd x0) (hd x1) 1024 0 (by decide) (by decide) r)) (offS (hd x0) (hd x1) 1024 512 (by decide) (by decide) r)) (lStep (mStep mask0 (offS (hd x0) (hd x1) 1024 0 (by decide) (by decide) r)) (lStep mask0 0 (offS (hd x0) (hd x1) 1024 0 (by decide) (by decide) r)) (offS (hd x0) (hd x1) 1024 512 (by decide) (by decide) r)) (diagS (hd x0) (hd x1) 1024 (by decide) r)) := by
  simp only [attQ, aAt, lAt, mAt, chS, chV, Nat.reduceMul, Nat.reduceAdd, Nat.reduceLeDiff,
    Nat.reduceEqDiff, if_true, if_false, dite_true]

theorem piece3 (r : Fin 512) (d : Fin 64) : k1_pay1 (F := Ideal) (k1_pay67 x0 x1 x2) (k1_pay68 x0 x1 x2) (k1_pay73 x0 x1 x2) (k1_pay59 (k1_pay68 x0 x1 x2)) (k1_pay61 (k1_pay67 x0 x1 x2) (k1_pay73 x0 x1 x2) (k1_pay74 x0 x1 x2)) (k1_pay64 (k1_pay67 x0 x1 x2) (k1_pay73 x0 x1 x2) (k1_pay74 x0 x1 x2) (k1_pay53 (k1_pay67 x0 x1 x2) (View.ld x0 r1_4)) (k1_pay54 (k1_pay67 x0 x1 x2) (View.ld x0 r1_4))) (k1_pay65 (k1_pay67 x0 x1 x2) (k1_pay68 x0 x1 x2) (k1_pay73 x0 x1 x2) (k1_pay47 (F := Ideal)) (k1_pay48 (k1_pay68 x0 x1 x2)) (k1_pay74 x0 x1 x2) (k1_pay51 (k1_pay67 x0 x1 x2) (View.ld x0 r1_4)) (k1_pay52 (k1_pay67 x0 x1 x2) (View.ld x0 r1_4))) (k1_pay66 (k1_pay67 x0 x1 x2) (k1_pay73 x0 x1 x2) (k1_pay74 x0 x1 x2)) (constant (F := Ideal) S512x64 .f32 0x00000000#32) (ix5 0 r 0 0 d) =
    Ideal.div (aStep (mStep (mStep (mStep mask0 (offS (hd x0) (hd x1) 1536 0 (by decide) (by decide) r)) (offS (hd x0) (hd x1) 1536 512 (by decide) (by decide) r)) (offS (hd x0) (hd x1) 1536 1024 (by decide) (by decide) r)) (aStep (mStep (mStep mask0 (offS (hd x0) (hd x1) 1536 0 (by decide) (by decide) r)) (offS (hd x0) (hd x1) 1536 512 (by decide) (by decide) r)) (aStep (mStep mask0 (offS (hd x0) (hd x1) 1536 0 (by decide) (by decide) r)) (aStep mask0 0 (offS (hd x0) (hd x1) 1536 0 (by decide) (by decide) r) (vals (hd x2) 0 (by decide) d)) (offS (hd x0) (hd x1) 1536 512 (by decide) (by decide) r) (vals (hd x2) 512 (by decide) d)) (offS (hd x0) (hd x1) 1536 1024 (by decide) (by decide) r) (vals (hd x2) 1024 (by decide) d)) (diagS (hd x0) (hd x1) 1536 (by decide) r) (vals (hd x2) 1536 (by decide) d))
    (lStep (mStep (mStep (mStep mask0 (offS (hd x0) (hd x1) 1536 0 (by decide) (by decide) r)) (offS (hd x0) (hd x1) 1536 512 (by decide) (by decide) r)) (offS (hd x0) (hd x1) 1536 1024 (by decide) (by decide) r)) (lStep (mStep (mStep mask0 (offS (hd x0) (hd x1) 1536 0 (by decide) (by decide) r)) (offS (hd x0) (hd x1) 1536 512 (by decide) (by decide) r)) (lStep (mStep mask0 (offS (hd x0) (hd x1) 1536 0 (by decide) (by decide) r)) (lStep mask0 0 (offS (hd x0) (hd x1) 1536 0 (by decide) (by decide) r)) (offS (hd x0) (hd x1) 1536 512 (by decide) (by decide) r)) (offS (hd x0) (hd x1) 1536 1024 (by decide) (by decide) r)) (diagS (hd x0) (hd x1) 1536 (by decide) r)) := by
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, aStep, lStep, mStep,
    offS, diagS, mask0, vals, hd]

theorem attQ3 (r : Fin 512) (d : Fin 64) : attQ (hd x0) (hd x1) (hd x2) 3 (by decide) r d =
    Ideal.div (aStep (mStep (mStep (mStep mask0 (offS (hd x0) (hd x1) 1536 0 (by decide) (by decide) r)) (offS (hd x0) (hd x1) 1536 512 (by decide) (by decide) r)) (offS (hd x0) (hd x1) 1536 1024 (by decide) (by decide) r)) (aStep (mStep (mStep mask0 (offS (hd x0) (hd x1) 1536 0 (by decide) (by decide) r)) (offS (hd x0) (hd x1) 1536 512 (by decide) (by decide) r)) (aStep (mStep mask0 (offS (hd x0) (hd x1) 1536 0 (by decide) (by decide) r)) (aStep mask0 0 (offS (hd x0) (hd x1) 1536 0 (by decide) (by decide) r) (vals (hd x2) 0 (by decide) d)) (offS (hd x0) (hd x1) 1536 512 (by decide) (by decide) r) (vals (hd x2) 512 (by decide) d)) (offS (hd x0) (hd x1) 1536 1024 (by decide) (by decide) r) (vals (hd x2) 1024 (by decide) d)) (diagS (hd x0) (hd x1) 1536 (by decide) r) (vals (hd x2) 1536 (by decide) d))
    (lStep (mStep (mStep (mStep mask0 (offS (hd x0) (hd x1) 1536 0 (by decide) (by decide) r)) (offS (hd x0) (hd x1) 1536 512 (by decide) (by decide) r)) (offS (hd x0) (hd x1) 1536 1024 (by decide) (by decide) r)) (lStep (mStep (mStep mask0 (offS (hd x0) (hd x1) 1536 0 (by decide) (by decide) r)) (offS (hd x0) (hd x1) 1536 512 (by decide) (by decide) r)) (lStep (mStep mask0 (offS (hd x0) (hd x1) 1536 0 (by decide) (by decide) r)) (lStep mask0 0 (offS (hd x0) (hd x1) 1536 0 (by decide) (by decide) r)) (offS (hd x0) (hd x1) 1536 512 (by decide) (by decide) r)) (offS (hd x0) (hd x1) 1536 1024 (by decide) (by decide) r)) (diagS (hd x0) (hd x1) 1536 (by decide) r)) := by
  simp only [attQ, aAt, lAt, mAt, chS, chV, Nat.reduceMul, Nat.reduceAdd, Nat.reduceLeDiff,
    Nat.reduceEqDiff, if_true, if_false, dite_true]

/-- What the body leaves in the output block. -/
theorem at_out (y : S1x2048x1x1x64.Idx) :
    out1_3 x0 x1 x2 y = att (hd x0) (hd x1) (hd x2) (y 1) (y 4) := by
  canon_tiles z h
  · have e0 : (y 1 : Fin 2048).val = 1536 + (z 1 : Fin 512).val := by omega
    have e4 : (y 4 : Fin 64) = (z 4 : Fin 64) := Fin.ext (by omega)
    have key : att (hd x0) (hd x1) (hd x2) (y 1) (y 4) = attQ (hd x0) (hd x1) (hd x2) 3 (by decide) (z 1) (z 4) := by
      rw [← e4]
      exact att_of _ _ _ (y 1) 3 (by decide) (z 1) (y 4) e0
    refine Eq.trans ?_ key.symm
    idx_vars z
    rw [show z0 = (0 : Fin 1) from Subsingleton.elim _ _, show z2 = (0 : Fin 1) from Subsingleton.elim _ _,
      show z3 = (0 : Fin 1) from Subsingleton.elim _ _]
    exact (piece3 x0 x1 x2 z1 z4).trans (attQ3 x0 x1 x2 z1 z4).symm
  · have e0 : (y 1 : Fin 2048).val = 1024 + (z 1 : Fin 512).val := by omega
    have e4 : (y 4 : Fin 64) = (z 4 : Fin 64) := Fin.ext (by omega)
    have key : att (hd x0) (hd x1) (hd x2) (y 1) (y 4) = attQ (hd x0) (hd x1) (hd x2) 2 (by decide) (z 1) (z 4) := by
      rw [← e4]
      exact att_of _ _ _ (y 1) 2 (by decide) (z 1) (y 4) e0
    refine Eq.trans ?_ key.symm
    idx_vars z
    rw [show z0 = (0 : Fin 1) from Subsingleton.elim _ _, show z2 = (0 : Fin 1) from Subsingleton.elim _ _,
      show z3 = (0 : Fin 1) from Subsingleton.elim _ _]
    exact (piece2 x0 x1 x2 z1 z4).trans (attQ2 x0 x1 x2 z1 z4).symm
  · have e0 : (y 1 : Fin 2048).val = 512 + (z 1 : Fin 512).val := by omega
    have e4 : (y 4 : Fin 64) = (z 4 : Fin 64) := Fin.ext (by omega)
    have key : att (hd x0) (hd x1) (hd x2) (y 1) (y 4) = attQ (hd x0) (hd x1) (hd x2) 1 (by decide) (z 1) (z 4) := by
      rw [← e4]
      exact att_of _ _ _ (y 1) 1 (by decide) (z 1) (y 4) e0
    refine Eq.trans ?_ key.symm
    idx_vars z
    rw [show z0 = (0 : Fin 1) from Subsingleton.elim _ _, show z2 = (0 : Fin 1) from Subsingleton.elim _ _,
      show z3 = (0 : Fin 1) from Subsingleton.elim _ _]
    exact (piece1 x0 x1 x2 z1 z4).trans (attQ1 x0 x1 x2 z1 z4).symm
  · have e0 : (y 1 : Fin 2048).val = 0 + (z 1 : Fin 512).val := by omega
    have e4 : (y 4 : Fin 64) = (z 4 : Fin 64) := Fin.ext (by omega)
    have key : att (hd x0) (hd x1) (hd x2) (y 1) (y 4) = attQ (hd x0) (hd x1) (hd x2) 0 (by decide) (z 1) (z 4) := by
      rw [← e4]
      exact att_of _ _ _ (y 1) 0 (by decide) (z 1) (y 4) e0
    refine Eq.trans ?_ key.symm
    idx_vars z
    rw [show z0 = (0 : Fin 1) from Subsingleton.elim _ _, show z2 = (0 : Fin 1) from Subsingleton.elim _ _,
      show z3 = (0 : Fin 1) from Subsingleton.elim _ _]
    exact (piece0 x0 x1 x2 z1 z4).trans (attQ0 x0 x1 x2 z1 z4).symm

end

section
variable (V : (c : Dev nD) → (b : Ref sig .tc) → Buf (Elt Ideal) (c.tc.loc b))

theorem idx1 : ∀ t : Fin cfg1.N,
    win1_0.index t = ![t.val / 16, 0, t.val % 16, 0, 0] ∧
    win1_1.index t = ![t.val / 16, 0, t.val % 16, 0, 0] ∧
    win1_2.index t = ![t.val / 16, 0, t.val % 16, 0, 0] ∧
    win1_3.index t = ![t.val / 16, 0, t.val % 16, 0, 0] :=
  (by decide +kernel : ∀ t : Fin grid1.N, _)

/-- A head's rows in the whole array. -/
def hdA (x : S2x2048x16x1x64.Idx → EReal) (b : Fin 2) (h : Fin 16) (t : Fin 2048) (d : Fin 64) : EReal :=
  x (ix5 b t h 0 d)

theorem final1_3 (c : Dev nD) : (dat1 V c).arrAt 3 cfg1.N = fun i : S2x2048x16x1x64.Idx =>
    att (hdA (V c main_v12) (i 0) (i 2)) (hdA (V c main_v13) (i 0) (i 2)) (hdA (V c main_v14) (i 0) (i 2))
      (i 1) (i 4) := by
  refine (dat1 V c).arrAt_eq_of_covers 3 _ (by decide +kernel) fun t _ y => ?_
  blk_simp
  rw [after1_3]
  refine (at_out _ _ _ _).trans ?_
  have h0 : hd (iblk1 V c 0 t) = hdA (V c main_v12) (((cfg1.win 3).blk t).view.emb y 0) (((cfg1.win 3).blk t).view.emb y 2) := by
    funext u d
    unfold hd hdA
    blk_point [iblk1, idx1 t]
  have h1 : hd (iblk1 V c 1 t) = hdA (V c main_v13) (((cfg1.win 3).blk t).view.emb y 0) (((cfg1.win 3).blk t).view.emb y 2) := by
    funext u d
    unfold hd hdA
    blk_point [iblk1, idx1 t]
  have h2 : hd (iblk1 V c 2 t) = hdA (V c main_v14) (((cfg1.win 3).blk t).view.emb y 0) (((cfg1.win 3).blk t).view.emb y 2) := by
    funext u d
    unfold hd hdA
    blk_point [iblk1, idx1 t]
  have h3 : (((cfg1.win 3).blk t).view.emb y 1 : Fin 2048) = y 1 := by
    refine Fin.ext ?_
    blk_simp [idx1 t]
    try omega
  have h4 : (((cfg1.win 3).blk t).view.emb y 4 : Fin 64) = y 4 := by
    refine Fin.ext ?_
    blk_simp [idx1 t]
    try omega
  rw [h0, h1, h2]
  exact congrArg₂ (att _ _ _) h3.symm h4.symm

end

end Cert.KernelIdeal.Value

end
-- ==== Proof.AttnRows.lean ====
/- The attention of call 1 over the extended reals is a plain causal softmax row. -/
module

public import proofs.«01_k».proof.Proof.Region1
public import proofs.«01_k».proof.Proof.Common

@[expose] public section

set_option maxRecDepth 16384

noncomputable section

open Idealize.ShloMosaic Idealize.ShloMosaic.TcCoe

namespace Cert.Spec

theorem eighth_real : ∃ ρ : ℝ, Ideal.ofBits .f32 0x3E000000#32 = (ρ : EReal) := by
  simp only [Ideal.ofBits, Ideal.ieee]
  rw [if_neg (by decide), if_neg (by decide), if_neg (by decide)]
  exact ⟨_, rfl⟩

theorem dot_real {n : ℕ} (x y : Fin n → EReal) (hx : ∀ k, ∃ ρ : ℝ, x k = ↑ρ) (hy : ∀ k, ∃ ρ : ℝ, y k = ↑ρ) :
    ∃ ρ : ℝ, (∑ k, x k * y k) = ↑ρ := by
  choose a ha using hx
  choose b hb using hy
  refine ⟨∑ k, a k * b k, ?_⟩
  rw [← coe_sum]
  refine Finset.sum_congr rfl fun k _ => ?_
  rw [ha, hb, EReal.coe_mul]

theorem score_real (Q K : Fin 2048 → Fin 64 → EReal) (hQ : ∀ t d, ∃ ρ : ℝ, Q t d = ↑ρ) (hK : ∀ t d, ∃ ρ : ℝ, K t d = ↑ρ)
    (t s : Fin 2048) (h : ¬ t < s) : ∃ ρ : ℝ, score Q K t s = ↑ρ := by
  unfold score
  rw [if_neg h]
  obtain ⟨a, ha⟩ := dot_real (Q t) (K s) (hQ t) (hK s)
  obtain ⟨e, he⟩ := eighth_real
  exact ⟨a * e, by rw [ha, he, EReal.coe_mul]⟩

theorem score_ne_top (Q K : Fin 2048 → Fin 64 → EReal) (hQ : ∀ t d, ∃ ρ : ℝ, Q t d = ↑ρ) (hK : ∀ t d, ∃ ρ : ℝ, K t d = ↑ρ)
    (t s : Fin 2048) : score Q K t s ≠ ⊤ := by
  by_cases h : t < s
  · unfold score; rw [if_pos h]; exact bot_ne_top
  · obtain ⟨a, ha⟩ := score_real Q K hQ hK t s h
    rw [ha]; exact EReal.coe_ne_top a

theorem score_sum_pos (Q K : Fin 2048 → Fin 64 → EReal) (hQ : ∀ t d, ∃ ρ : ℝ, Q t d = ↑ρ) (hK : ∀ t d, ∃ ρ : ℝ, K t d = ↑ρ)
    (t : Fin 2048) : 0 < ∑ s, ew (score Q K t s) := by
  obtain ⟨a, ha⟩ := score_real Q K hQ hK t t (lt_irrefl t)
  refine Finset.sum_pos' (fun s _ => ew_nonneg _) ⟨t, Finset.mem_univ _, ?_⟩
  rw [ha, ew_coe]; exact Real.exp_pos _

/-- The score at a natural number, minus infinity beyond the keys. -/
def scN (Q K : Fin 2048 → Fin 64 → EReal) (t : Fin 2048) (s : ℕ) : EReal :=
  if h : s < 2048 then score Q K t ⟨s, h⟩ else ⊥

end Cert.Spec

namespace Cert.KernelIdeal.Value

open Cert.KernelIdeal Cert.KernelIdeal.Gen Cert.Spec

theorem mask0_eq : mask0 = ⊥ := by
  simp [mask0, Named.named, κ]

theorem mStep_eq (m : EReal) (S : Fin 512 → EReal) : mStep m S = max m (Finset.fold max ⊥ S Finset.univ) := by
  unfold mStep
  rw [ofBits_ninf]

theorem sgt_iff (k r : Fin 512) :
    IntOp.cmpi CmpIPredicate.sgt (BitVec.ofNat 32 k.val) (BitVec.ofNat 32 r.val) = if r < k then 1#1 else 0#1 := by
  have hk := k.isLt
  have hr := r.isLt
  have e1 : (BitVec.ofNat 32 k.val).toInt = (k.val : ℤ) := by
    rw [BitVec.toInt_eq_toNat_of_lt (by rw [BitVec.toNat_ofNat]; omega), BitVec.toNat_ofNat]; omega
  have e2 : (BitVec.ofNat 32 r.val).toInt = (r.val : ℤ) := by
    rw [BitVec.toInt_eq_toNat_of_lt (by rw [BitVec.toNat_ofNat]; omega), BitVec.toNat_ofNat]; omega
  by_cases h : r < k
  · have h' : r.val < k.val := h
    simp [IntOp.cmpi, BitVec.slt, e1, e2, h, h']
  · have h' : ¬ r.val < k.val := h
    simp [IntOp.cmpi, BitVec.slt, e1, e2, h, h']

section
variable (Q K W : Fin 2048 → Fin 64 → EReal)

theorem off_score (q n : ℕ) (hq : 512 * q + 512 ≤ 2048) (hn : 512 * n + 512 ≤ 2048) (r k : Fin 512) (t : Fin 2048)
    (ht : t.val = 512 * q + r.val) (h : 512 * n + k.val ≤ t.val) :
    offS Q K (512 * q) (512 * n) hq hn r k = scN Q K t (512 * n + k.val) := by
  have hs : 512 * n + k.val < 2048 := by omega
  unfold scN offS score
  rw [dif_pos hs, if_neg (by rw [Fin.lt_def]; show ¬ t.val < 512 * n + k.val; omega)]
  have e : (⟨512 * q + r.val, lt_of_lt_of_le (Nat.add_lt_add_left r.isLt _) hq⟩ : Fin 2048) = t := Fin.ext ht.symm
  rw [e]

theorem ch_score (q n : ℕ) (hq : 512 * q + 512 ≤ 2048) (hnq : n ≤ q) (r k : Fin 512) (t : Fin 2048)
    (ht : t.val = 512 * q + r.val) : chS Q K q hq r n k = scN Q K t (512 * n + k.val) := by
  have hk := k.isLt
  have hn : 512 * n + 512 ≤ 2048 := by omega
  unfold chS
  rw [dif_pos hn]
  by_cases h : n = q
  · subst h
    rw [if_pos rfl]
    unfold diagS
    rw [sgt_iff]
    by_cases h' : r < k
    · have h2 : r.val < k.val := h'
      have hs : 512 * n + k.val < 2048 := by omega
      rw [if_pos h', mask0_eq]
      unfold scN score
      rw [dif_pos hs, if_pos (by rw [Fin.lt_def]; show t.val < 512 * n + k.val; omega)]
      rfl
    · have h2 : ¬ r.val < k.val := h'
      rw [if_neg h', ← off_score Q K n n hq hn r k t ht (by omega)]
      rfl
  · rw [if_neg h]
    exact off_score Q K q n hq hn r k t ht (by omega)

/-- The values at a natural number, zero beyond the keys. -/
def vN (w : Fin 2048 → Fin 64 → ℝ) (d : Fin 64) (s : ℕ) : ℝ := if h : s < 2048 then w ⟨s, h⟩ d else 0

theorem att_stands (hQ : ∀ t d, ∃ ρ : ℝ, Q t d = ↑ρ) (hK : ∀ t d, ∃ ρ : ℝ, K t d = ↑ρ) (w : Fin 2048 → Fin 64 → ℝ)
    (hW : ∀ t d, W t d = ↑(w t d)) (q : ℕ) (hq : 512 * q + 512 ≤ 2048) (r : Fin 512) (d : Fin 64) (t : Fin 2048)
    (ht : t.val = 512 * q + r.val) : ∀ n, n ≤ q + 1 →
    Stands (mAt (chS Q K q hq r) n) (lAt (chS Q K q hq r) n) (aAt (chS Q K q hq r) (chV W d) n)
      (∑ c ∈ Finset.range n, ∑ k : Fin 512, ew (scN Q K t (512 * c + k.val)))
      (∑ c ∈ Finset.range n, ∑ k : Fin 512, ew (scN Q K t (512 * c + k.val)) * vN w d (512 * c + k.val))
  | 0, _ => by
    have h := Stands.start
    rw [← mask0_eq] at h
    simpa [mAt, lAt, aAt] using h
  | n + 1, hn => by
    have ih := att_stands hQ hK w hW q hq r d t ht n (by omega)
    have hb : 512 * n + 512 ≤ 2048 := by omega
    have hS : chS Q K q hq r n = fun k : Fin 512 => scN Q K t (512 * n + k.val) :=
      funext fun k => ch_score Q K q n hq (by omega) r k t ht
    rw [Finset.sum_range_succ, Finset.sum_range_succ]
    show Stands (mStep _ _) (lStep _ _ _) (aStep _ _ _ _) _ _
    unfold lStep aStep
    simp only [mStep_eq]
    rw [hS]
    refine ih.step (fun k : Fin 512 => scN Q K t (512 * n + k.val)) (chV W d n) (fun k => vN w d (512 * n + k.val)) ?_ ?_ ?_
    · intro k
      have hk := k.isLt
      unfold chV vN
      rw [dif_pos hb, dif_pos (by omega : 512 * n + k.val < 2048)]
      exact hW _ _
    · intro k
      have hk := k.isLt
      show scN Q K t _ ≠ ⊤
      unfold scN
      rw [dif_pos (by omega : 512 * n + k.val < 2048)]
      exact score_ne_top Q K hQ hK _ _
    · refine ⟨0, ?_⟩
      show scN Q K t (512 * n + 0) ≠ ⊥
      unfold scN
      rw [dif_pos (by omega : 512 * n + 0 < 2048)]
      obtain ⟨a, ha⟩ := score_real Q K hQ hK t ⟨512 * n + 0, by omega⟩ (by rw [Fin.lt_def]; show ¬ t.val < 512 * n + 0; omega)
      rw [ha]; exact EReal.coe_ne_bot a

theorem range_2048 (F : ℕ → ℝ) (q : ℕ) (hq : 512 * (q + 1) ≤ 2048) (h : ∀ s, 512 * (q + 1) ≤ s → F s = 0) :
    (∑ s ∈ Finset.range (512 * (q + 1)), F s) = ∑ s : Fin 2048, F s.val := by
  rw [Fin.sum_univ_eq_sum_range]
  refine Finset.sum_subset (Finset.range_mono hq) fun s _ hs => h s ?_
  simpa using hs

/-- The attention of a row is the softmax-weighted sum of the values. -/
theorem att_eq (hQ : ∀ t d, ∃ ρ : ℝ, Q t d = ↑ρ) (hK : ∀ t d, ∃ ρ : ℝ, K t d = ↑ρ) (w : Fin 2048 → Fin 64 → ℝ)
    (hW : ∀ t d, W t d = ↑(w t d)) (t : Fin 2048) (d : Fin 64) :
    att Q K W t d = (((∑ s, ew (score Q K t s) * w s d) / ∑ s, ew (score Q K t s) : ℝ) : EReal) := by
  have ht := t.isLt
  have hq := att_bound t
  have hs := att_stands Q K W hQ hK w hW (t.val / 512) hq ⟨t.val % 512, Nat.mod_lt _ (by decide)⟩ d t
    (by show t.val = 512 * (t.val / 512) + t.val % 512; omega) (t.val / 512 + 1) (le_refl _)
  have hz : ∀ s, 512 * (t.val / 512 + 1) ≤ s → ew (scN Q K t s) = 0 := by
    intro s hs
    unfold scN
    by_cases h : s < 2048
    · rw [dif_pos h]
      unfold score
      rw [if_pos (by rw [Fin.lt_def]; show t.val < s; omega), ew_bot]
    · rw [dif_neg h, ew_bot]
  rw [sum_chunks 512 (fun s => ew (scN Q K t s)), sum_chunks 512 (fun s => ew (scN Q K t s) * vN w d s),
    range_2048 _ _ (by omega) hz, range_2048 _ _ (by omega) (fun s h => by rw [hz s h, zero_mul])] at hs
  have e1 : (∑ s : Fin 2048, ew (scN Q K t s.val)) = ∑ s, ew (score Q K t s) :=
    Finset.sum_congr rfl fun s _ => by unfold scN; rw [dif_pos s.isLt]
  have e2 : (∑ s : Fin 2048, ew (scN Q K t s.val) * vN w d s.val) = ∑ s, ew (score Q K t s) * w s d :=
    Finset.sum_congr rfl fun s _ => by unfold scN vN; rw [dif_pos s.isLt, dif_pos s.isLt]
  rw [e1, e2] at hs
  unfold att attQ
  exact hs.div (score_sum_pos Q K hQ hK t)

end

end Cert.KernelIdeal.Value
end
-- ==== Proof.GoodFacts.lean ====
/- What the assumed finiteness gives: real projections, and a sum over eight padded rows as one over six. -/
module

public import proofs.«01_k».proof.Proof.AttnRows
public import proofs.«01_k».proof.Proof.Common

@[expose] public section

noncomputable section

open Idealize.ShloMosaic Idealize.ShloMosaic.TcCoe

namespace Cert.Spec

namespace Inp
variable {I : Inp} (hI : I.Good)
include hI

theorem Good.proj (b : Fin 2) (t : Fin 2048) (n : Fin 3072) : ∃ ρ : ℝ, aff I.X I.Wq I.bq b t n = ↑ρ := by
  obtain ⟨x, hx⟩ := dot_real (fun k => I.X b t k) (fun k => I.Wq k n) (hI.X b t) (fun k => hI.Wq k n)
  obtain ⟨y, hy⟩ := hI.bq n
  exact ⟨x + y, by unfold aff; rw [hx, hy, EReal.coe_add]⟩

theorem Good.q (b : Fin 2) (h : Fin 16) (t : Fin 2048) (d : Fin 64) : ∃ ρ : ℝ, I.q b h t d = ↑ρ := hI.proj b t _
theorem Good.k (b : Fin 2) (h : Fin 16) (t : Fin 2048) (d : Fin 64) : ∃ ρ : ℝ, I.k b h t d = ↑ρ := hI.proj b t _
theorem Good.v (b : Fin 2) (h : Fin 16) (t : Fin 2048) (d : Fin 64) : I.v b h t d = ↑(I.v b h t d).toReal := by
  obtain ⟨ρ, e⟩ := hI.proj b t (hcol 2048 (by decide) h d)
  have e' : I.v b h t d = ↑ρ := e
  rw [e', EReal.toReal_coe]

omit hI in
/-- The padded rows add nothing. -/
theorem qr_six (g : ℝ) (w : ℕ → Fin 8 → ℝ) (ρ : Fin 8 → ℝ) (h6 : ∀ s, w s 6 = 0) (h7 : ∀ s, w s 7 = 0) (c : ℕ) :
    qr g (fun s (p : Fin 6) => w s (p.castLE (by decide))) c (fun p => ρ (p.castLE (by decide))) = qr g w c ρ := by
  unfold qr
  refine Finset.sum_congr rfl fun s _ => ?_
  have e : (∑ p, w s p * ρ p) = ∑ p : Fin 6, w s (p.castLE (by decide)) * ρ (p.castLE (by decide)) := by
    rw [Fin.sum_univ_eight, Fin.sum_univ_six, h6, h7, zero_mul, zero_mul, add_zero, add_zero]
    rfl
  rw [e]

omit hI in
theorem wrow_six (b : Fin 2) (h : Fin 16) (s : ℕ) : I.wrow b h s 6 = 0 := by
  unfold wrow
  split
  · rw [show jrow _ _ (6 : Fin 8).val = 0 from rfl]; rfl
  · rfl
omit hI in
theorem wrow_seven (b : Fin 2) (h : Fin 16) (s : ℕ) : I.wrow b h s 7 = 0 := by
  unfold wrow
  split
  · rw [show jrow _ _ (7 : Fin 8).val = 0 from rfl]; rfl
  · rfl

omit hI in
theorem wrow_coe (b : Fin 2) (h : Fin 16) (t : Fin 2048) (p : Fin 8) : (I.wrow b h t.val p : EReal) = jrow (I.wa b h t) (I.wb b h t) p.val := by
  obtain ⟨ρ, e⟩ := jrow_real (I.wa b h t) (I.wb b h t) p.val
  unfold wrow
  rw [dif_pos t.isLt]
  show (((jrow (I.wa b h t) (I.wb b h t) p.val).toReal : ℝ) : EReal) = _
  rw [e, EReal.toReal_coe]

omit hI in
theorem rrw_coe (b : Fin 2) (h : Fin 16) (t : Fin 2048) (p : Fin 8) : (I.rrw b h t.val p : EReal) = rrow (I.ra b h t) (I.rb b h t) p.val := by
  obtain ⟨ρ, e⟩ := rrow_real (I.ra b h t) (I.rb b h t) p.val
  unfold rrw
  rw [dif_pos t.isLt]
  show (((rrow (I.ra b h t) (I.rb b h t) p.val).toReal : ℝ) : EReal) = _
  rw [e, EReal.toReal_coe]

end Inp

theorem rrow_div (a b : Fin 4 → EReal) (e : Fin 6) : rrow a b e.val = Ideal.div (pvec a b e) (nrm a b) := by
  fin_cases e
  · exact line_eq_div a b 0 1
  · exact line_eq_div a b 0 2
  · exact line_eq_div a b 0 3
  · exact line_eq_div a b 1 2
  · exact line_eq_div a b 1 3
  · exact line_eq_div a b 2 3

theorem jrow_div (a b : Fin 4 → EReal) (J : Fin 6 → Fin 6 → EReal)
    (hJ : ∀ e c, J e c = if c.val = 5 - e.val then (if e.val = 1 ∨ e.val = 4 then -1 else 1) else 0) (c : Fin 6) :
    (∑ e : Fin 6, Ideal.div (pvec a b e) (nrm a b) * J e c) = jrow a b c.val := by
  simp only [hJ]
  rw [Fin.sum_univ_six]
  fin_cases c
  · simp [jrow, line_eq_div]; rfl
  · simp [jrow, line_eq_div]; rfl
  · simp [jrow, line_eq_div]; rfl
  · simp [jrow, line_eq_div]; rfl
  · simp [jrow, line_eq_div]; rfl
  · simp [jrow, line_eq_div]; rfl

end Cert.Spec
end
-- ==== Proof.Region0.lean ====
/- Call 0 (the projections): each result array as a function of the arrays the call reads. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) (c.tc.loc b))

/-- A row of `x` against a column of `w`, plus a bias. -/
def affine {N : ℕ} (x : FVec Ideal S4096x1024 .bf16) (w : FVec Ideal ⟨2, ![1024, N]⟩ .bf16)
    (b : FVec Ideal ⟨2, ![1, N]⟩ .f32) (r : Fin 4096) (n : Fin N) : EReal :=
  (∑ k : Fin 1024, x (ix2 r k) * w (ix2 k n)) + b (ix2 0 n)

theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0]
    ∧ win0_10.index t = ![t.val, 0] ∧ win0_11.index t = ![t.val, 0] :=
  (by decide +kernel : ∀ t : Fin grid0.N, _)

/-- The queries. -/
theorem final0_7 (c : Dev nD) : (dat0 V c).arrAt 7 cfg0.N
    = fun i : S4096x1024.Idx => affine (V c main_v1) (V c main_v6) (V c main_v7) (i 0) ⟨0 + (i 1 : Fin 1024).val, lt_of_lt_of_le (Nat.add_lt_add_left (i 1 : Fin 1024).isLt 0) (by decide)⟩ := by
  refine (dat0 V c).arrAt_eq_of_covers 7 _ (by decide +kernel) fun t _ y => ?_
  blk_simp
  rw [after0_7]
  frame_out
  pointwise [k0_pay4, k0_pay3, affine]
  blk_point [iblk0, idx0 t]

/-- The keys. -/
theorem final0_8 (c : Dev nD) : (dat0 V c).arrAt 8 cfg0.N
    = fun i : S4096x1024.Idx => affine (V c main_v1) (V c main_v6) (V c main_v7) (i 0) ⟨1024 + (i 1 : Fin 1024).val, lt_of_lt_of_le (Nat.add_lt_add_left (i 1 : Fin 1024).isLt 1024) (by decide)⟩ := by
  refine (dat0 V c).arrAt_eq_of_covers 8 _ (by decide +kernel) fun t _ y => ?_
  blk_simp
  rw [after0_8]
  frame_out
  pointwise [k0_pay5, k0_pay3, affine]
  blk_point [iblk0, idx0 t]

/-- The values. -/
theorem final0_9 (c : Dev nD) : (dat0 V c).arrAt 9 cfg0.N
    = fun i : S4096x1024.Idx => affine (V c main_v1) (V c main_v6) (V c main_v7) (i 0) ⟨2048 + (i 1 : Fin 1024).val, lt_of_lt_of_le (Nat.add_lt_add_left (i 1 : Fin 1024).isLt 2048) (by decide)⟩ := by
  refine (dat0 V c).arrAt_eq_of_covers 9 _ (by decide +kernel) fun t _ y => ?_
  blk_simp
  rw [after0_9]
  frame_out
  pointwise [k0_pay6, k0_pay3, affine]
  blk_point [iblk0, idx0 t]

/-- The line projections and the gate logits. -/
theorem final0_10 (c : Dev nD) : (dat0 V c).arrAt 10 cfg0.N
    = fun i : S4096x272.Idx => affine (V c main_v1) (V c main_v8) (V c main_v5) (i 0) (i 1) := by
  refine (dat0 V c).arrAt_eq_of_covers 10 _ (by decide +kernel) fun t _ y => ?_
  blk_simp
  rw [after0_10]
  frame_out
  pointwise [k0_pay7, affine]
  blk_point [iblk0, idx0 t]

/-- The memory values. -/
theorem final0_11 (c : Dev nD) : (dat0 V c).arrAt 11 cfg0.N
    = fun i : S4096x1024.Idx => affine (V c main_v1) (V c main_v9) (V c main_v10) (i 0) (i 1) := by
  refine (dat0 V c).arrAt_eq_of_covers 11 _ (by decide +kernel) fun t _ y => ?_
  blk_simp
  rw [after0_11]
  frame_out
  pointwise [k0_pay1, k0_pay8, affine]
  blk_point [iblk0, idx0 t]

end Cert.KernelIdeal.Value

end
-- ==== Proof.KerProj.lean ====
/- The idealized kernel's first call: the projections, as the arguments give them. -/
module

public import proofs.«01_k».proof.Proof.Gen.KernelIdeal.Frame
public import Idealize.ShloMosaic.Lib.StableHlo.RunRead
public import Idealize.ShloMosaic.Lib.Pipeline.ValueKit
public import Idealize.ShloMosaic.Lib.Pointwise
public import proofs.«01_k».proof.Proof.Common
public import proofs.«01_k».proof.Proof.KerHost
public import proofs.«01_k».proof.Proof.GoodFacts
public import proofs.«01_k».proof.Proof.Region0

@[expose] public section

set_option maxRecDepth 16384

noncomputable section

open Idealize.ShloMosaic Idealize.ShloMosaic.TcCoe Idealize.ShloMosaic.StableHlo Idealize.SL.Sem

namespace Cert.KernelIdeal.Value

open Cert.KernelIdeal Cert.KernelIdeal.Gen Cert.Spec

/-- The arguments as the valuation holds them. -/
def inpK (V : Valuation τ sig (Elt Ideal)) : Inp where
  X b t k := a0 V (ix3 b t k)
  Wq k n := a1 V (ix2 k n)
  bq n := a2 V (ix1 n)
  W1w k n := a3 V (ix2 k n)
  W2w k n := a4 V (ix2 k n)
  W1r k n := a5 V (ix2 k n)
  W2r k n := a6 V (ix2 k n)
  Wmv k n := a7 V (ix2 k n)
  bmv n := a8 V (ix1 n)
  Wg k n := a9 V (ix2 k n)
  bg n := a10 V (ix1 n)
  ms n := a11 V (ix1 n)
  Wo k n := (V (Proc.devRef .tc main_arg12) : FVec Ideal S1024x1024 .f32) (ix2 k n)
  bo n := a13 V (ix1 n)
  A h p q := a14 V (ix3 h p q)

theorem rb_row (b : Fin 2) (t : Fin 2048) : rb (row b t) = b :=
  Fin.ext (by show (b.val * 2048 + t.val) / 2048 = b.val; have := t.isLt; omega)
theorem rt_row (b : Fin 2) (t : Fin 2048) : rt (row b t) = t :=
  Fin.ext (by show (b.val * 2048 + t.val) % 2048 = t.val; have := t.isLt; omega)

theorem affine_of {N : ℕ} (x : FVec Ideal S4096x1024 .bf16) (w : FVec Ideal ⟨2, ![1024, N]⟩ .bf16) (v : FVec Ideal ⟨2, ![1, N]⟩ .f32)
    (r : Fin 4096) (n : Fin N) (X W : Fin 1024 → EReal) (z : EReal) (hx : ∀ k, x (ix2 r k) = X k) (hw : ∀ k, w (ix2 k n) = W k)
    (hv : v (ix2 0 n) = z) : affine x w v r n = (∑ k, X k * W k) + z := by
  unfold affine
  exact congrArg₂ (· + ·) (Finset.sum_congr rfl fun k _ => congrArg₂ (· * ·) (hx k) (hw k)) hv

variable (m : (ℓ : Loc nD τ sig) → Buf (Elt Ideal) ℓ) (ρ : Dev nD → PrngReg) (c : Dev nD)

/-- The arguments at launch. -/
abbrev I0 : Inp := inpK (W0 m ρ c)

theorem x_at (b : Fin 2) (t : Fin 2048) (k : Fin 1024) : (after hostOps0 (W0 m ρ c) (Proc.devRef .tc main_v1) : FVec Ideal S4096x1024 .bf16) (ix2 (row b t) k)
    = (I0 m ρ c).X b t k := by
  refine (h0_v1 (W0 m ρ c) (row b t) k).trans ?_
  rw [rb_row, rt_row]
  rfl

theorem k2_q (b : Fin 2) (t : Fin 2048) (n : Fin 1024) (n' : Fin 3072) (hn : n'.val = 0 + n.val) : b11_0 (W2 m ρ c) (ix2 (row b t) n)
    = aff (I0 m ρ c).X (I0 m ρ c).Wq (I0 m ρ c).bq b t n' := by
  have en : n' = ⟨0 + n.val, lt_of_lt_of_le (Nat.add_lt_add_left n.isLt 0) (by decide)⟩ := Fin.ext hn
  rw [en]
  exact (congrFun (W2_arr m ρ c 7) (ix2 (row b t) n)).trans ((congrFun (final0_7 (V1 m ρ) c) (ix2 (row b t) n)).trans
    (affine_of _ _ _ (row b t) _ _ _ _ (x_at m ρ c b t) (fun k => h0_v6 (W0 m ρ c) k _) (h0_v7 (W0 m ρ c) _)))
theorem k2_k (b : Fin 2) (t : Fin 2048) (n : Fin 1024) (n' : Fin 3072) (hn : n'.val = 1024 + n.val) : b11_1 (W2 m ρ c) (ix2 (row b t) n)
    = aff (I0 m ρ c).X (I0 m ρ c).Wq (I0 m ρ c).bq b t n' := by
  have en : n' = ⟨1024 + n.val, lt_of_lt_of_le (Nat.add_lt_add_left n.isLt 1024) (by decide)⟩ := Fin.ext hn
  rw [en]
  exact (congrFun (W2_arr m ρ c 8) (ix2 (row b t) n)).trans ((congrFun (final0_8 (V1 m ρ) c) (ix2 (row b t) n)).trans
    (affine_of _ _ _ (row b t) _ _ _ _ (x_at m ρ c b t) (fun k => h0_v6 (W0 m ρ c) k _) (h0_v7 (W0 m ρ c) _)))
theorem k2_v (b : Fin 2) (t : Fin 2048) (n : Fin 1024) (n' : Fin 3072) (hn : n'.val = 2048 + n.val) : b11_2 (W2 m ρ c) (ix2 (row b t) n)
    = aff (I0 m ρ c).X (I0 m ρ c).Wq (I0 m ρ c).bq b t n' := by
  have en : n' = ⟨2048 + n.val, lt_of_lt_of_le (Nat.add_lt_add_left n.isLt 2048) (by decide)⟩ := Fin.ext hn
  rw [en]
  exact (congrFun (W2_arr m ρ c 9) (ix2 (row b t) n)).trans ((congrFun (final0_9 (V1 m ρ) c) (ix2 (row b t) n)).trans
    (affine_of _ _ _ (row b t) _ _ _ _ (x_at m ρ c b t) (fun k => h0_v6 (W0 m ρ c) k _) (h0_v7 (W0 m ρ c) _)))

abbrev b11_4 (V : Valuation τ sig (Elt Ideal)) (i : S4096x1024.Idx) : EReal := V (Proc.devRef .tc main_v11_4) i

theorem k2_mv (b : Fin 2) (t : Fin 2048) (n : Fin 1024) : b11_4 (W2 m ρ c) (ix2 (row b t) n)
    = aff (I0 m ρ c).X (I0 m ρ c).Wmv (I0 m ρ c).bmv b t n :=
  (congrFun (W2_arr m ρ c 11) (ix2 (row b t) n)).trans ((congrFun (final0_11 (V1 m ρ) c) (ix2 (row b t) n)).trans
    (affine_of _ _ _ (row b t) n _ _ _ (x_at m ρ c b t) (fun k => h0_v9 (W0 m ρ c) k n) (h0_v10 (W0 m ρ c) n)))

theorem k2_sel (b : Fin 2) (t : Fin 2048) (n : Fin 272) (W : Fin 1024 → EReal) (z : EReal)
    (hw : ∀ k, (after hostOps0 (W0 m ρ c) (Proc.devRef .tc main_v8) : FVec Ideal S1024x272 .bf16) (ix2 k n) = W k)
    (hz : (after hostOps0 (W0 m ρ c) (Proc.devRef .tc main_v5) : FVec Ideal S1x272 .f32) (ix2 0 n) = z) :
    b11_3 (W2 m ρ c) (ix2 (row b t) n) = (∑ k, (I0 m ρ c).X b t k * W k) + z :=
  (congrFun (W2_arr m ρ c 10) (ix2 (row b t) n)).trans ((congrFun (final0_10 (V1 m ρ) c) (ix2 (row b t) n)).trans
    (affine_of _ _ _ (row b t) n _ _ _ (x_at m ρ c b t) hw hz))

theorem v5_lo (n : Fin 272) (h : n.val < 256) :
    (after hostOps0 (W0 m ρ c) (Proc.devRef .tc main_v5) : FVec Ideal S1x272 .f32) (ix2 0 n) = (0 : EReal) :=
  (h0_v5 (W0 m ρ c) n).trans (dif_pos h)

theorem k2_1w (b : Fin 2) (t : Fin 2048) (j : Fin 64) (n : Fin 272) (hn : n.val = j.val) : b11_3 (W2 m ρ c) (ix2 (row b t) n)
    = lin (I0 m ρ c).X (I0 m ρ c).W1w b t j := by
  have hj := j.isLt
  refine (k2_sel m ρ c b t n (fun k => (I0 m ρ c).W1w k j) 0 (fun k => (h0_v8 (W0 m ρ c) k n).trans ?_) (v5_lo m ρ c n (by omega))).trans (add_zero _)
  rw [dif_pos (by omega)]
  exact congrArg (fun z => a3 (W0 m ρ c) (ix2 k z)) (Fin.ext hn)
theorem k2_2w (b : Fin 2) (t : Fin 2048) (j : Fin 64) (n : Fin 272) (hn : n.val = 64 + j.val) : b11_3 (W2 m ρ c) (ix2 (row b t) n)
    = lin (I0 m ρ c).X (I0 m ρ c).W2w b t j := by
  have hj := j.isLt
  refine (k2_sel m ρ c b t n (fun k => (I0 m ρ c).W2w k j) 0 (fun k => (h0_v8 (W0 m ρ c) k n).trans ?_) (v5_lo m ρ c n (by omega))).trans (add_zero _)
  rw [dif_neg (by omega), dif_pos (by omega)]
  exact congrArg (fun z => a4 (W0 m ρ c) (ix2 k z)) (Fin.ext (by show n.val - 64 = j.val; omega))
theorem k2_1r (b : Fin 2) (t : Fin 2048) (j : Fin 64) (n : Fin 272) (hn : n.val = 128 + j.val) : b11_3 (W2 m ρ c) (ix2 (row b t) n)
    = lin (I0 m ρ c).X (I0 m ρ c).W1r b t j := by
  have hj := j.isLt
  refine (k2_sel m ρ c b t n (fun k => (I0 m ρ c).W1r k j) 0 (fun k => (h0_v8 (W0 m ρ c) k n).trans ?_) (v5_lo m ρ c n (by omega))).trans (add_zero _)
  rw [dif_neg (by omega), dif_neg (by omega), dif_pos (by omega)]
  exact congrArg (fun z => a5 (W0 m ρ c) (ix2 k z)) (Fin.ext (by show n.val - 64 - 64 = j.val; omega))
theorem k2_2r (b : Fin 2) (t : Fin 2048) (j : Fin 64) (n : Fin 272) (hn : n.val = 192 + j.val) : b11_3 (W2 m ρ c) (ix2 (row b t) n)
    = lin (I0 m ρ c).X (I0 m ρ c).W2r b t j := by
  have hj := j.isLt
  refine (k2_sel m ρ c b t n (fun k => (I0 m ρ c).W2r k j) 0 (fun k => (h0_v8 (W0 m ρ c) k n).trans ?_) (v5_lo m ρ c n (by omega))).trans (add_zero _)
  rw [dif_neg (by omega), dif_neg (by omega), dif_neg (by omega), dif_pos (by omega)]
  exact congrArg (fun z => a6 (W0 m ρ c) (ix2 k z)) (Fin.ext (by show n.val - 64 - 64 - 64 = j.val; omega))
theorem k2_g (b : Fin 2) (t : Fin 2048) (j : Fin 16) (n : Fin 272) (hn : n.val = 256 + j.val) : b11_3 (W2 m ρ c) (ix2 (row b t) n)
    = aff (I0 m ρ c).X (I0 m ρ c).Wg (I0 m ρ c).bg b t j := by
  have hj := j.isLt
  refine k2_sel m ρ c b t n (fun k => (I0 m ρ c).Wg k j) _ (fun k => (h0_v8 (W0 m ρ c) k n).trans ?_) ((h0_v5 (W0 m ρ c) n).trans ?_)
  · rw [dif_neg (by omega), dif_neg (by omega), dif_neg (by omega), dif_neg (by omega)]
    exact congrArg (fun z => a9 (W0 m ρ c) (ix2 k z)) (Fin.ext (by show n.val - 64 - 64 - 64 - 64 = j.val; omega))
  · rw [dif_neg (by omega)]
    exact congrArg (fun z => a10 (W0 m ρ c) (ix1 z)) (Fin.ext (by show n.val - 256 = j.val; omega))

end Cert.KernelIdeal.Value
end
-- ==== Proof.Region3.lean ====
/- Call 3 (the decayed scan): the result array as a function of the arrays the call reads. -/
module

public import proofs.«01_k».proof.Proof.Gen.KernelIdeal.Frame
public import Idealize.ShloMosaic.Lib.Pipeline.ValueKit
public import Idealize.ShloMosaic.Lib.Pointwise
public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Spec

variable (V : (c : Dev nD) → (b : Ref sig .tc) → Buf (Elt Ideal) (c.tc.loc b))

section
variable (w r : FVec Ideal S8x2048 .f32) (dm : FVec Ideal S128x128 .f32) (gr gv : FVec Ideal S1x128 .f32)
  (gc : FVec Ideal S1x1 .f32)

/-- The state after the chunk of 128 columns that starts at `o`. -/
def stepA (o : ℕ) (ho : o + 128 ≤ 2048) (M : FVec Ideal S8x8 .f32) : FVec Ideal S8x8 .f32 := fun i =>
  gc (ix2 0 0) * M i + ∑ k : Fin 128,
    (w (ix2 (i 0 : Fin 8) ⟨o + k.val, lt_of_lt_of_le (Nat.add_lt_add_left k.isLt o) ho⟩) * gv (ix2 0 k))
      * w (ix2 (i 1 : Fin 8) ⟨o + k.val, lt_of_lt_of_le (Nat.add_lt_add_left k.isLt o) ho⟩)

/-- The scores of the chunk of 128 columns that starts at `o`. -/
def outA (o : ℕ) (ho : o + 128 ≤ 2048) (M : FVec Ideal S8x8 .f32) : FVec Ideal S1x1x128 .f32 := fun i =>
  gr (ix2 0 (i 2 : Fin 128)) * (∑ p : Fin 8, (∑ q : Fin 8, M (ix2 q p)
      * r (ix2 q ⟨o + (i 2 : Fin 128).val, lt_of_lt_of_le (Nat.add_lt_add_left (i 2 : Fin 128).isLt o) ho⟩))
      * r (ix2 p ⟨o + (i 2 : Fin 128).val, lt_of_lt_of_le (Nat.add_lt_add_left (i 2 : Fin 128).isLt o) ho⟩))
    + ∑ j : Fin 128,
      ((∑ p : Fin 8, w (ix2 p ⟨o + j.val, lt_of_lt_of_le (Nat.add_lt_add_left j.isLt o) ho⟩)
        * r (ix2 p ⟨o + (i 2 : Fin 128).val, lt_of_lt_of_le (Nat.add_lt_add_left (i 2 : Fin 128).isLt o) ho⟩))
      * (∑ p : Fin 8, w (ix2 p ⟨o + j.val, lt_of_lt_of_le (Nat.add_lt_add_left j.isLt o) ho⟩)
        * r (ix2 p ⟨o + (i 2 : Fin 128).val, lt_of_lt_of_le (Nat.add_lt_add_left (i 2 : Fin 128).isLt o) ho⟩)))
      * dm (ix2 j (i 2 : Fin 128))

end

section
variable (v5 v7 : Vec Ideal S1x8x2048 .f32) (v6 v8 : FVec Ideal S8x2048 .f32) (v21 : FVec Ideal S128x128 .f32)
  (v26 v31 : FVec Ideal S1x128 .f32) (v34 : FVec Ideal S1x1 .f32) (v35 M N L : FVec Ideal S8x8 .f32) (U : FVec Ideal S8x128 .f32)

theorem scan_m2 : k3_pay17 (F := Ideal) (k3_pay2 v5) v31 v34 v35 (k3_pay10 v5)
    = (stepA (k3_pay2 v5) v31 v34 128 (by decide) (stepA (k3_pay2 v5) v31 v34 0 (by decide) v35)) := by
  funext i
  idx_vars i
  pointwise [k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, stepA, outA]

theorem scan_m4 : k3_pay25 (F := Ideal) v6 v31 v34 M (k3_pay18 v6)
    = (stepA v6 v31 v34 384 (by decide) (stepA v6 v31 v34 256 (by decide) M)) := by
  funext i
  idx_vars i
  pointwise [k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, stepA, outA]

theorem scan_m6 : k3_pay33 (F := Ideal) v6 v31 v34 M (k3_pay26 v6)
    = (stepA v6 v31 v34 640 (by decide) (stepA v6 v31 v34 512 (by decide) M)) := by
  funext i
  idx_vars i
  pointwise [k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, stepA, outA]

theorem scan_m8 : k3_pay40 (F := Ideal) v6 v31 v34 M (k3_pay34 v6)
    = (stepA v6 v31 v34 896 (by decide) (stepA v6 v31 v34 768 (by decide) M)) := by
  funext i
  idx_vars i
  pointwise [k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, stepA, outA]

theorem scan_m10 : k3_pay48 (F := Ideal) (k3_pay46 v31 v34 M (k3_pay41 v6)) (k3_pay47 v6 v31)
    = (stepA v6 v31 v34 1152 (by decide) (stepA v6 v31 v34 1024 (by decide) M)) := by
  funext i
  idx_vars i
  pointwise [k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, stepA, outA]

theorem scan_m12 : k3_pay56 (F := Ideal) (k3_pay52 v6) (k3_pay54 v6 v31 v34 M N) (k3_pay55 v6 v31)
    = (stepA v6 v31 v34 1408 (by decide) (stepA v6 v31 v34 1280 (by decide) (k3_pay48 M N))) := by
  funext i
  idx_vars i
  pointwise [k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, stepA, outA]

theorem scan_m14 : k3_pay63 (F := Ideal) v31 (k3_pay60 v6) (k3_pay62 v6 v31 v34 (k3_pay52 v6) M U)
    = (stepA v6 v31 v34 1664 (by decide) (stepA v6 v31 v34 1536 (by decide) (k3_pay56 (k3_pay52 v6) M U))) := by
  funext i
  idx_vars i
  pointwise [k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay57, k3_pay58, k3_pay59, k3_pay60, k3_pay61, k3_pay62, k3_pay63, k3_pay64, k3_pay65, k3_pay66, stepA, outA]

theorem scan_o0 : k3_pay13 (F := Ideal) v21 v26 (k3_pay10 v5) (k3_pay11 v7) (k3_pay12 v7) (constant (F := Ideal) S128x128 .f32 0x00000000#32)
    = outA (k3_pay2 v5) (k3_pay3 v7) v21 v26 0 (by decide) (k3_pay9 (F := Ideal)) := by
  funext i
  idx_vars i
  rw [show i0 = (0 : Fin 1) from Subsingleton.elim _ _, show i1 = (0 : Fin 1) from Subsingleton.elim _ _]
  pointwise [k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, stepA, outA]

theorem scan_o1 : k3_pay16 (F := Ideal) (k3_pay2 v5) v8 v21 v26 v31 v34 v35 (k3_pay10 v5)
    = outA (k3_pay2 v5) v8 v21 v26 128 (by decide) (stepA (k3_pay2 v5) v31 v34 0 (by decide) v35) := by
  funext i
  idx_vars i
  rw [show i0 = (0 : Fin 1) from Subsingleton.elim _ _, show i1 = (0 : Fin 1) from Subsingleton.elim _ _]
  pointwise [k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, stepA, outA]

theorem scan_o2 : k3_pay21 (F := Ideal) v21 v26 (k3_pay18 (k3_pay2 v5)) (k3_pay19 v8) (k3_pay20 (k3_pay2 v5) v8 v31 v34 v35 (k3_pay10 v5))
    = outA (k3_pay2 v5) v8 v21 v26 256 (by decide) (stepA (k3_pay2 v5) v31 v34 128 (by decide) (stepA (k3_pay2 v5) v31 v34 0 (by decide) v35)) := by
  funext i
  idx_vars i
  rw [show i0 = (0 : Fin 1) from Subsingleton.elim _ _, show i1 = (0 : Fin 1) from Subsingleton.elim _ _]
  pointwise [k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, stepA, outA]

theorem scan_o3 : k3_pay24 (F := Ideal) v6 v8 v21 v26 v31 v34 M (k3_pay18 v6)
    = outA v6 v8 v21 v26 384 (by decide) (stepA v6 v31 v34 256 (by decide) M) := by
  funext i
  idx_vars i
  rw [show i0 = (0 : Fin 1) from Subsingleton.elim _ _, show i1 = (0 : Fin 1) from Subsingleton.elim _ _]
  pointwise [k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, stepA, outA]

theorem scan_o4 : k3_pay29 (F := Ideal) v21 v26 (k3_pay26 v6) (k3_pay27 v8) (k3_pay28 v6 v8 v31 v34 M (k3_pay18 v6))
    = outA v6 v8 v21 v26 512 (by decide) (stepA v6 v31 v34 384 (by decide) (stepA v6 v31 v34 256 (by decide) M)) := by
  funext i
  idx_vars i
  rw [show i0 = (0 : Fin 1) from Subsingleton.elim _ _, show i1 = (0 : Fin 1) from Subsingleton.elim _ _]
  pointwise [k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, stepA, outA]

theorem scan_o5 : k3_pay32 (F := Ideal) v6 v8 v21 v26 v31 v34 M (k3_pay26 v6)
    = outA v6 v8 v21 v26 640 (by decide) (stepA v6 v31 v34 512 (by decide) M) := by
  funext i
  idx_vars i
  rw [show i0 = (0 : Fin 1) from Subsingleton.elim _ _, show i1 = (0 : Fin 1) from Subsingleton.elim _ _]
  pointwise [k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, stepA, outA]

theorem scan_o6 : k3_pay36 (F := Ideal) v21 v26 M (k3_pay34 v6) (k3_pay35 v8) (constant (F := Ideal) S8x128 .f32 0x00000000#32)
    = outA v6 v8 v21 v26 768 (by decide) M := by
  funext i
  idx_vars i
  rw [show i0 = (0 : Fin 1) from Subsingleton.elim _ _, show i1 = (0 : Fin 1) from Subsingleton.elim _ _]
  pointwise [k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, stepA, outA]

theorem scan_o7 : k3_pay39 (F := Ideal) v6 v8 v21 v26 v31 v34 M (k3_pay34 v6)
    = outA v6 v8 v21 v26 896 (by decide) (stepA v6 v31 v34 768 (by decide) M) := by
  funext i
  idx_vars i
  rw [show i0 = (0 : Fin 1) from Subsingleton.elim _ _, show i1 = (0 : Fin 1) from Subsingleton.elim _ _]
  pointwise [k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, stepA, outA]

theorem scan_o8 : k3_pay42 (F := Ideal) v8 v21 v26 M (k3_pay41 v6)
    = outA v6 v8 v21 v26 1024 (by decide) M := by
  funext i
  idx_vars i
  rw [show i0 = (0 : Fin 1) from Subsingleton.elim _ _, show i1 = (0 : Fin 1) from Subsingleton.elim _ _]
  pointwise [k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, stepA, outA]

theorem scan_o9 : k3_pay45 (F := Ideal) v6 v8 v21 v26 v31 v34 M (k3_pay41 v6)
    = outA v6 v8 v21 v26 1152 (by decide) (stepA v6 v31 v34 1024 (by decide) M) := by
  funext i
  idx_vars i
  rw [show i0 = (0 : Fin 1) from Subsingleton.elim _ _, show i1 = (0 : Fin 1) from Subsingleton.elim _ _]
  pointwise [k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, stepA, outA]

theorem scan_o10 : k3_pay50 (F := Ideal) v6 v8 v21 v26 M N
    = outA v6 v8 v21 v26 1280 (by decide) (k3_pay48 M N) := by
  funext i
  idx_vars i
  rw [show i0 = (0 : Fin 1) from Subsingleton.elim _ _, show i1 = (0 : Fin 1) from Subsingleton.elim _ _]
  pointwise [k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, stepA, outA]

theorem scan_o11 : k3_pay53 (F := Ideal) v6 v8 v21 v26 v31 v34 M N
    = outA v6 v8 v21 v26 1408 (by decide) (stepA v6 v31 v34 1280 (by decide) (k3_pay48 M N)) := by
  funext i
  idx_vars i
  rw [show i0 = (0 : Fin 1) from Subsingleton.elim _ _, show i1 = (0 : Fin 1) from Subsingleton.elim _ _]
  pointwise [k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, stepA, outA]

theorem scan_o12 : k3_pay58 (F := Ideal) v6 v8 v21 v26 (k3_pay52 v6) M U
    = outA v6 v8 v21 v26 1536 (by decide) (k3_pay56 (k3_pay52 v6) M U) := by
  funext i
  idx_vars i
  rw [show i0 = (0 : Fin 1) from Subsingleton.elim _ _, show i1 = (0 : Fin 1) from Subsingleton.elim _ _]
  pointwise [k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay57, k3_pay58, k3_pay59, k3_pay60, k3_pay61, k3_pay62, k3_pay63, k3_pay64, k3_pay65, k3_pay66, stepA, outA]

theorem scan_o13 : k3_pay61 (F := Ideal) v6 v8 v21 v26 v31 v34 (k3_pay52 v6) M U
    = outA v6 v8 v21 v26 1664 (by decide) (stepA v6 v31 v34 1536 (by decide) (k3_pay56 (k3_pay52 v6) M U)) := by
  funext i
  idx_vars i
  rw [show i0 = (0 : Fin 1) from Subsingleton.elim _ _, show i1 = (0 : Fin 1) from Subsingleton.elim _ _]
  pointwise [k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay57, k3_pay58, k3_pay59, k3_pay60, k3_pay61, k3_pay62, k3_pay63, k3_pay64, k3_pay65, k3_pay66, stepA, outA]

theorem scan_o14 : k3_pay65 (F := Ideal) v6 v8 v21 v26 v31 (k3_pay60 v6) M
    = outA v6 v8 v21 v26 1792 (by decide) (k3_pay63 v31 (k3_pay60 v6) M) := by
  funext i
  idx_vars i
  rw [show i0 = (0 : Fin 1) from Subsingleton.elim _ _, show i1 = (0 : Fin 1) from Subsingleton.elim _ _]
  pointwise [k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay64, k3_pay65, k3_pay66, stepA, outA]

theorem scan_o15 : k3_pay66 (F := Ideal) v6 v8 v21 v26 v31 v34 (k3_pay60 v6) M
    = outA v6 v8 v21 v26 1920 (by decide) (stepA v6 v31 v34 1792 (by decide) (k3_pay63 v31 (k3_pay60 v6) M)) := by
  funext i
  idx_vars i
  rw [show i0 = (0 : Fin 1) from Subsingleton.elim _ _, show i1 = (0 : Fin 1) from Subsingleton.elim _ _]
  pointwise [k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay64, k3_pay65, k3_pay66, stepA, outA]

end

/-- The state before chunk `n`. -/
def stA (w : FVec Ideal S8x2048 .f32) (gv : FVec Ideal S1x128 .f32) (gc : FVec Ideal S1x1 .f32) : ℕ → FVec Ideal S8x8 .f32
  | 0 => k3_pay9 (F := Ideal)
  | n + 1 => if hn : 128 * n + 128 ≤ 2048 then stepA w gv gc (128 * n) hn (stA w gv gc n) else stA w gv gc n

/-- The score at column `128 n + z`. -/
def scanN (w r : FVec Ideal S8x2048 .f32) (g : EReal) (n : ℕ) (hn : 128 * n + 128 ≤ 2048) (z : Fin 128) : EReal :=
  outA w r (k3_pay4 (F := Ideal) g) (k3_pay6 (F := Ideal) g) (128 * n) hn
    (stA w (k3_pay7 (F := Ideal) g) (k3_pay8 (F := Ideal) g) n) (ix3 0 0 z)

theorem scan_bound (t : Fin 2048) : 128 * (t.val / 128) + 128 ≤ 2048 := by omega

/-- The score at column `t`. -/
def scanAt (w r : FVec Ideal S8x2048 .f32) (g : EReal) (t : Fin 2048) : EReal :=
  scanN w r g (t.val / 128) (scan_bound t) ⟨t.val % 128, Nat.mod_lt _ (by decide)⟩

theorem scan_of (w r : FVec Ideal S8x2048 .f32) (g : EReal) (t : Fin 2048) (n : ℕ) (hn : 128 * n + 128 ≤ 2048) (z : Fin 128)
    (h : t.val = 128 * n + z.val) : scanAt w r g t = scanN w r g n hn z := by
  have h1 : t.val / 128 = n := by omega
  have h2 : (⟨t.val % 128, Nat.mod_lt _ (by decide)⟩ : Fin 128) = z := Fin.ext (by show _ % _ = _; omega)
  subst h1
  rw [scanAt, h2]

theorem scan_out (c : Dev nD) (i : grid3.Coords) (arg1 : Memref sig .tc .vmem S1x8x2048 .f32) (harg1 : arg1.IsWhole) (arg2 : Memref sig .tc .vmem S1x8x2048 .f32) (harg2 : arg2.IsWhole) (arg3 : Memref sig .tc .smem S1x1 .f32) (harg3 : arg3.IsWhole) (arg4 : Memref sig .tc .vmem S1x1x2048 .f32) (harg4 : arg4.IsWhole)
    (x0 : Vec Ideal S1x8x2048 .f32) (x1 : Vec Ideal S1x8x2048 .f32) (x2 : Vec Ideal S1x1 .f32) (y : S1x1x2048.Idx) :
    out3_A_3 c i arg1 harg1 arg2 harg2 arg3 harg3 arg4 harg4 x0 x1 x2 y
      = scanAt (k3_pay2 x0) (k3_pay3 x1) (x2 (ix2 0 0)) (y 2) := by
  have hg : ∀ k : S1x1.Idx, x2 k = x2 (ix2 0 0) := fun k => by
    idx_vars k
    rw [show k0 = (0 : Fin 1) from Subsingleton.elim _ _, show k1 = (0 : Fin 1) from Subsingleton.elim _ _]
  have hl : View.ld x2 (Rect.unit ![0, 0] ![1, 1] inb_S1x1_S1x1_0_0) (Shape.Idx.first (by decide)) = x2 (ix2 0 0) := hg _
  frame_out
  canon_tiles z h
  · have key : scanAt (k3_pay2 x0) (k3_pay3 x1) (x2 (ix2 0 0)) (y 2)
        = scanN (k3_pay2 x0) (k3_pay3 x1) (x2 (ix2 0 0)) 15 (by decide) (z 2) := scan_of _ _ _ (y 2) 15 (by decide) (z 2) (by omega)
    refine Eq.trans ?_ key.symm
    idx_vars z
    rw [show z0 = (0 : Fin 1) from Subsingleton.elim _ _, show z1 = (0 : Fin 1) from Subsingleton.elim _ _]
    show _ = scanN (k3_pay2 x0) (k3_pay3 x1) (x2 (ix2 0 0)) 15 (by decide) z2
    simp only [hl, scan_m2, scan_m4, scan_m6, scan_m8, scan_m10, scan_m12, scan_m14, scan_o15, scanN, stA, Nat.reduceMul,
      Nat.reduceAdd, Nat.reduceLeDiff, dite_true]
    try rfl
  · have key : scanAt (k3_pay2 x0) (k3_pay3 x1) (x2 (ix2 0 0)) (y 2)
        = scanN (k3_pay2 x0) (k3_pay3 x1) (x2 (ix2 0 0)) 14 (by decide) (z 2) := scan_of _ _ _ (y 2) 14 (by decide) (z 2) (by omega)
    refine Eq.trans ?_ key.symm
    idx_vars z
    rw [show z0 = (0 : Fin 1) from Subsingleton.elim _ _, show z1 = (0 : Fin 1) from Subsingleton.elim _ _]
    show _ = scanN (k3_pay2 x0) (k3_pay3 x1) (x2 (ix2 0 0)) 14 (by decide) z2
    simp only [hl, scan_m2, scan_m4, scan_m6, scan_m8, scan_m10, scan_m12, scan_m14, scan_o14, scanN, stA, Nat.reduceMul,
      Nat.reduceAdd, Nat.reduceLeDiff, dite_true]
    try rfl
  · have key : scanAt (k3_pay2 x0) (k3_pay3 x1) (x2 (ix2 0 0)) (y 2)
        = scanN (k3_pay2 x0) (k3_pay3 x1) (x2 (ix2 0 0)) 13 (by decide) (z 2) := scan_of _ _ _ (y 2) 13 (by decide) (z 2) (by omega)
    refine Eq.trans ?_ key.symm
    idx_vars z
    rw [show z0 = (0 : Fin 1) from Subsingleton.elim _ _, show z1 = (0 : Fin 1) from Subsingleton.elim _ _]
    show _ = scanN (k3_pay2 x0) (k3_pay3 x1) (x2 (ix2 0 0)) 13 (by decide) z2
    simp only [hl, scan_m2, scan_m4, scan_m6, scan_m8, scan_m10, scan_m12, scan_m14, scan_o13, scanN, stA, Nat.reduceMul,
      Nat.reduceAdd, Nat.reduceLeDiff, dite_true]
    try rfl
  · have key : scanAt (k3_pay2 x0) (k3_pay3 x1) (x2 (ix2 0 0)) (y 2)
        = scanN (k3_pay2 x0) (k3_pay3 x1) (x2 (ix2 0 0)) 12 (by decide) (z 2) := scan_of _ _ _ (y 2) 12 (by decide) (z 2) (by omega)
    refine Eq.trans ?_ key.symm
    idx_vars z
    rw [show z0 = (0 : Fin 1) from Subsingleton.elim _ _, show z1 = (0 : Fin 1) from Subsingleton.elim _ _]
    show _ = scanN (k3_pay2 x0) (k3_pay3 x1) (x2 (ix2 0 0)) 12 (by decide) z2
    simp only [hl, scan_m2, scan_m4, scan_m6, scan_m8, scan_m10, scan_m12, scan_m14, scan_o12, scanN, stA, Nat.reduceMul,
      Nat.reduceAdd, Nat.reduceLeDiff, dite_true]
    try rfl
  · have key : scanAt (k3_pay2 x0) (k3_pay3 x1) (x2 (ix2 0 0)) (y 2)
        = scanN (k3_pay2 x0) (k3_pay3 x1) (x2 (ix2 0 0)) 11 (by decide) (z 2) := scan_of _ _ _ (y 2) 11 (by decide) (z 2) (by omega)
    refine Eq.trans ?_ key.symm
    idx_vars z
    rw [show z0 = (0 : Fin 1) from Subsingleton.elim _ _, show z1 = (0 : Fin 1) from Subsingleton.elim _ _]
    show _ = scanN (k3_pay2 x0) (k3_pay3 x1) (x2 (ix2 0 0)) 11 (by decide) z2
    simp only [hl, scan_m2, scan_m4, scan_m6, scan_m8, scan_m10, scan_m12, scan_m14, scan_o11, scanN, stA, Nat.reduceMul,
      Nat.reduceAdd, Nat.reduceLeDiff, dite_true]
    try rfl
  · have key : scanAt (k3_pay2 x0) (k3_pay3 x1) (x2 (ix2 0 0)) (y 2)
        = scanN (k3_pay2 x0) (k3_pay3 x1) (x2 (ix2 0 0)) 10 (by decide) (z 2) := scan_of _ _ _ (y 2) 10 (by decide) (z 2) (by omega)
    refine Eq.trans ?_ key.symm
    idx_vars z
    rw [show z0 = (0 : Fin 1) from Subsingleton.elim _ _, show z1 = (0 : Fin 1) from Subsingleton.elim _ _]
    show _ = scanN (k3_pay2 x0) (k3_pay3 x1) (x2 (ix2 0 0)) 10 (by decide) z2
    simp only [hl, scan_m2, scan_m4, scan_m6, scan_m8, scan_m10, scan_m12, scan_m14, scan_o10, scanN, stA, Nat.reduceMul,
      Nat.reduceAdd, Nat.reduceLeDiff, dite_true]
    try rfl
  · have key : scanAt (k3_pay2 x0) (k3_pay3 x1) (x2 (ix2 0 0)) (y 2)
        = scanN (k3_pay2 x0) (k3_pay3 x1) (x2 (ix2 0 0)) 9 (by decide) (z 2) := scan_of _ _ _ (y 2) 9 (by decide) (z 2) (by omega)
    refine Eq.trans ?_ key.symm
    idx_vars z
    rw [show z0 = (0 : Fin 1) from Subsingleton.elim _ _, show z1 = (0 : Fin 1) from Subsingleton.elim _ _]
    show _ = scanN (k3_pay2 x0) (k3_pay3 x1) (x2 (ix2 0 0)) 9 (by decide) z2
    simp only [hl, scan_m2, scan_m4, scan_m6, scan_m8, scan_m10, scan_m12, scan_m14, scan_o9, scanN, stA, Nat.reduceMul,
      Nat.reduceAdd, Nat.reduceLeDiff, dite_true]
    try rfl
  · have key : scanAt (k3_pay2 x0) (k3_pay3 x1) (x2 (ix2 0 0)) (y 2)
        = scanN (k3_pay2 x0) (k3_pay3 x1) (x2 (ix2 0 0)) 8 (by decide) (z 2) := scan_of _ _ _ (y 2) 8 (by decide) (z 2) (by omega)
    refine Eq.trans ?_ key.symm
    idx_vars z
    rw [show z0 = (0 : Fin 1) from Subsingleton.elim _ _, show z1 = (0 : Fin 1) from Subsingleton.elim _ _]
    show _ = scanN (k3_pay2 x0) (k3_pay3 x1) (x2 (ix2 0 0)) 8 (by decide) z2
    simp only [hl, scan_m2, scan_m4, scan_m6, scan_m8, scan_m10, scan_m12, scan_m14, scan_o8, scanN, stA, Nat.reduceMul,
      Nat.reduceAdd, Nat.reduceLeDiff, dite_true]
    try rfl
  · have key : scanAt (k3_pay2 x0) (k3_pay3 x1) (x2 (ix2 0 0)) (y 2)
        = scanN (k3_pay2 x0) (k3_pay3 x1) (x2 (ix2 0 0)) 7 (by decide) (z 2) := scan_of _ _ _ (y 2) 7 (by decide) (z 2) (by omega)
    refine Eq.trans ?_ key.symm
    idx_vars z
    rw [show z0 = (0 : Fin 1) from Subsingleton.elim _ _, show z1 = (0 : Fin 1) from Subsingleton.elim _ _]
    show _ = scanN (k3_pay2 x0) (k3_pay3 x1) (x2 (ix2 0 0)) 7 (by decide) z2
    simp only [hl, scan_m2, scan_m4, scan_m6, scan_m8, scan_m10, scan_m12, scan_m14, scan_o7, scanN, stA, Nat.reduceMul,
      Nat.reduceAdd, Nat.reduceLeDiff, dite_true]
    try rfl
  · have key : scanAt (k3_pay2 x0) (k3_pay3 x1) (x2 (ix2 0 0)) (y 2)
        = scanN (k3_pay2 x0) (k3_pay3 x1) (x2 (ix2 0 0)) 6 (by decide) (z 2) := scan_of _ _ _ (y 2) 6 (by decide) (z 2) (by omega)
    refine Eq.trans ?_ key.symm
    idx_vars z
    rw [show z0 = (0 : Fin 1) from Subsingleton.elim _ _, show z1 = (0 : Fin 1) from Subsingleton.elim _ _]
    show _ = scanN (k3_pay2 x0) (k3_pay3 x1) (x2 (ix2 0 0)) 6 (by decide) z2
    simp only [hl, scan_m2, scan_m4, scan_m6, scan_m8, scan_m10, scan_m12, scan_m14, scan_o6, scanN, stA, Nat.reduceMul,
      Nat.reduceAdd, Nat.reduceLeDiff, dite_true]
    try rfl
  · have key : scanAt (k3_pay2 x0) (k3_pay3 x1) (x2 (ix2 0 0)) (y 2)
        = scanN (k3_pay2 x0) (k3_pay3 x1) (x2 (ix2 0 0)) 5 (by decide) (z 2) := scan_of _ _ _ (y 2) 5 (by decide) (z 2) (by omega)
    refine Eq.trans ?_ key.symm
    idx_vars z
    rw [show z0 = (0 : Fin 1) from Subsingleton.elim _ _, show z1 = (0 : Fin 1) from Subsingleton.elim _ _]
    show _ = scanN (k3_pay2 x0) (k3_pay3 x1) (x2 (ix2 0 0)) 5 (by decide) z2
    simp only [hl, scan_m2, scan_m4, scan_m6, scan_m8, scan_m10, scan_m12, scan_m14, scan_o5, scanN, stA, Nat.reduceMul,
      Nat.reduceAdd, Nat.reduceLeDiff, dite_true]
    try rfl
  · have key : scanAt (k3_pay2 x0) (k3_pay3 x1) (x2 (ix2 0 0)) (y 2)
        = scanN (k3_pay2 x0) (k3_pay3 x1) (x2 (ix2 0 0)) 4 (by decide) (z 2) := scan_of _ _ _ (y 2) 4 (by decide) (z 2) (by omega)
    refine Eq.trans ?_ key.symm
    idx_vars z
    rw [show z0 = (0 : Fin 1) from Subsingleton.elim _ _, show z1 = (0 : Fin 1) from Subsingleton.elim _ _]
    show _ = scanN (k3_pay2 x0) (k3_pay3 x1) (x2 (ix2 0 0)) 4 (by decide) z2
    simp only [hl, scan_m2, scan_m4, scan_m6, scan_m8, scan_m10, scan_m12, scan_m14, scan_o4, scanN, stA, Nat.reduceMul,
      Nat.reduceAdd, Nat.reduceLeDiff, dite_true]
    try rfl
  · have key : scanAt (k3_pay2 x0) (k3_pay3 x1) (x2 (ix2 0 0)) (y 2)
        = scanN (k3_pay2 x0) (k3_pay3 x1) (x2 (ix2 0 0)) 3 (by decide) (z 2) := scan_of _ _ _ (y 2) 3 (by decide) (z 2) (by omega)
    refine Eq.trans ?_ key.symm
    idx_vars z
    rw [show z0 = (0 : Fin 1) from Subsingleton.elim _ _, show z1 = (0 : Fin 1) from Subsingleton.elim _ _]
    show _ = scanN (k3_pay2 x0) (k3_pay3 x1) (x2 (ix2 0 0)) 3 (by decide) z2
    simp only [hl, scan_m2, scan_m4, scan_m6, scan_m8, scan_m10, scan_m12, scan_m14, scan_o3, scanN, stA, Nat.reduceMul,
      Nat.reduceAdd, Nat.reduceLeDiff, dite_true]
    try rfl
  · have key : scanAt (k3_pay2 x0) (k3_pay3 x1) (x2 (ix2 0 0)) (y 2)
        = scanN (k3_pay2 x0) (k3_pay3 x1) (x2 (ix2 0 0)) 2 (by decide) (z 2) := scan_of _ _ _ (y 2) 2 (by decide) (z 2) (by omega)
    refine Eq.trans ?_ key.symm
    idx_vars z
    rw [show z0 = (0 : Fin 1) from Subsingleton.elim _ _, show z1 = (0 : Fin 1) from Subsingleton.elim _ _]
    show _ = scanN (k3_pay2 x0) (k3_pay3 x1) (x2 (ix2 0 0)) 2 (by decide) z2
    simp only [hl, scan_m2, scan_m4, scan_m6, scan_m8, scan_m10, scan_m12, scan_m14, scan_o2, scanN, stA, Nat.reduceMul,
      Nat.reduceAdd, Nat.reduceLeDiff, dite_true]
    try rfl
  · have key : scanAt (k3_pay2 x0) (k3_pay3 x1) (x2 (ix2 0 0)) (y 2)
        = scanN (k3_pay2 x0) (k3_pay3 x1) (x2 (ix2 0 0)) 1 (by decide) (z 2) := scan_of _ _ _ (y 2) 1 (by decide) (z 2) (by omega)
    refine Eq.trans ?_ key.symm
    idx_vars z
    rw [show z0 = (0 : Fin 1) from Subsingleton.elim _ _, show z1 = (0 : Fin 1) from Subsingleton.elim _ _]
    show _ = scanN (k3_pay2 x0) (k3_pay3 x1) (x2 (ix2 0 0)) 1 (by decide) z2
    simp only [hl, scan_m2, scan_m4, scan_m6, scan_m8, scan_m10, scan_m12, scan_m14, scan_o1, scanN, stA, Nat.reduceMul,
      Nat.reduceAdd, Nat.reduceLeDiff, dite_true]
    try rfl
  · have key : scanAt (k3_pay2 x0) (k3_pay3 x1) (x2 (ix2 0 0)) (y 2)
        = scanN (k3_pay2 x0) (k3_pay3 x1) (x2 (ix2 0 0)) 0 (by decide) (z 2) := scan_of _ _ _ (y 2) 0 (by decide) (z 2) (by omega)
    refine Eq.trans ?_ key.symm
    idx_vars z
    rw [show z0 = (0 : Fin 1) from Subsingleton.elim _ _, show z1 = (0 : Fin 1) from Subsingleton.elim _ _]
    show _ = scanN (k3_pay2 x0) (k3_pay3 x1) (x2 (ix2 0 0)) 0 (by decide) z2
    simp only [hl, scan_m2, scan_m4, scan_m6, scan_m8, scan_m10, scan_m12, scan_m14, scan_o0, scanN, stA, Nat.reduceMul,
      Nat.reduceAdd, Nat.reduceLeDiff, dite_true]
    try rfl

section
variable (V : (c : Dev nD) → (b : Ref sig .tc) → Buf (Elt Ideal) (c.tc.loc b))

theorem idx3 : ∀ t : Fin cfg3.N, win3_0.index t = ![t.val, 0, 0] ∧ win3_1.index t = ![t.val, 0, 0]
    ∧ win3_2.index t = ![0, 0] ∧ win3_3.index t = ![t.val, 0, 0] :=
  (by decide +kernel : ∀ t : Fin grid3.N, _)

/-- The eight rows of one head. -/
def rowsA (X : FVec Ideal S32x8x2048 .f32) (b : Fin 32) : FVec Ideal S8x2048 .f32 := fun i => X (ix3 b (i 0 : Fin 8) (i 1 : Fin 2048))

theorem final3_3 (c : Dev nD) : (dat3 V c).arrAt 3 cfg3.N = fun i : S32x1x2048.Idx =>
    scanAt (rowsA (V c main_v42) (i 0)) (rowsA (V c main_v43) (i 0)) (V c main_v41 (ix2 0 0)) (i 2) := by
  refine (dat3 V c).arrAt_eq_of_covers 3 _ (by decide +kernel) fun t _ y => ?_
  blk_simp
  rw [after3_3]
  unfold outsAt3
  refine (scan_out _ _ _ _ _ _ _ _ _ _ _ _ _ _).trans ?_
  have h0 : k3_pay2 (F := Ideal) (iblk3 V c 0 t) = rowsA (V c main_v42) (((cfg3.win 3).blk t).view.emb y 0) := by
    funext u
    idx_vars u
    pointwise [k3_pay2, rowsA]
    blk_point [iblk3, idx3 t]
  have h1 : k3_pay3 (F := Ideal) (iblk3 V c 1 t) = rowsA (V c main_v43) (((cfg3.win 3).blk t).view.emb y 0) := by
    funext u
    idx_vars u
    pointwise [k3_pay3, rowsA]
    blk_point [iblk3, idx3 t]
  have h2 : (iblk3 V c 2 t : FVec Ideal S1x1 .f32) (ix2 0 0) = V c main_v41 (ix2 0 0) := by
    blk_point [iblk3, idx3 t]
  have h3 : (((cfg3.win 3).blk t).view.emb y 2 : Fin 2048) = y 2 := by
    refine Fin.ext ?_
    blk_simp [idx3 t]
    try omega
  rw [h0, h1]
  exact (congrArg (fun g => scanAt _ _ g _) h2).trans (congrArg (scanAt _ _ _) h3.symm)

end

end Cert.KernelIdeal.Value

end
-- ==== Proof.ScanRows.lean ====
/- The scan of call 3 over real rows is the decayed quadratic form. -/
module

public import proofs.«01_k».proof.Proof.Region3
public import proofs.«01_k».proof.Proof.Common

@[expose] public section

set_option maxRecDepth 16384

noncomputable section

open Idealize.ShloMosaic Idealize.ShloMosaic.TcCoe

namespace Cert.KernelIdeal.Value

open Cert.KernelIdeal Cert.KernelIdeal.Gen Cert.Spec

/-- A lane's number as a float. -/
theorem lane_real (n : ℕ) (h : n < 2048) : (FloatOps.sitofp (F := Ideal) FTy.f32 (BitVec.ofNat 32 n) : EReal) = ((n : ℝ) : EReal) := by
  show (((BitVec.ofNat 32 n).toInt : ℝ) : EReal) = _
  have e : (BitVec.ofNat 32 n).toInt = (n : ℤ) := by
    rw [BitVec.toInt_eq_toNat_of_lt (by rw [BitVec.toNat_ofNat]; omega), BitVec.toNat_ofNat]; omega
  rw [e]; simp

theorem ofBits_127 : Ideal.ofBits .f32 0x42FE0000#32 = ((127 : ℝ) : EReal) := by
  simp only [Ideal.ofBits, Ideal.ieee]
  rw [if_neg (by decide), if_neg (by decide), if_neg (by decide)]
  congr 1
  rw [show BitVec.toNat (BitVec.extractLsb' 23 8 (0x42FE0000#32)) = 133 from by decide,
    show BitVec.toNat (BitVec.extractLsb' 0 23 (0x42FE0000#32)) = 8257536 from by decide]
  norm_num

theorem ofBits_128 : Ideal.ofBits .f32 0x43000000#32 = ((128 : ℝ) : EReal) := by
  simp only [Ideal.ofBits, Ideal.ieee]
  rw [if_neg (by decide), if_neg (by decide), if_neg (by decide)]
  congr 1
  rw [show BitVec.toNat (BitVec.extractLsb' 23 8 (0x43000000#32)) = 134 from by decide,
    show BitVec.toNat (BitVec.extractLsb' 0 23 (0x43000000#32)) = 0 from by decide]
  norm_num

section
variable {γ : ℝ} (hγ : 0 ≤ γ)
include hγ

theorem pay6_at (i : Fin 128) : k3_pay6 (F := Ideal) (γ : EReal) (ix2 0 i) = ((γ ^ i.val : ℝ) : EReal) := by
  have e : k3_pay6 (F := Ideal) (γ : EReal) (ix2 0 i)
      = Ideal.exp (FloatOps.sitofp (F := Ideal) FTy.f32 (BitVec.ofNat 32 i.val) * Ideal.log (γ : EReal)) := by
    pointwise [k3_pay6, k3_pay5, k3_pay1]
  have hi := i.isLt
  rw [e, lane_real _ (by omega), exp_mul_log hγ]

theorem pay7_at (i : Fin 128) : k3_pay7 (F := Ideal) (γ : EReal) (ix2 0 i) = ((γ ^ (127 - i.val) : ℝ) : EReal) := by
  have e : k3_pay7 (F := Ideal) (γ : EReal) (ix2 0 i)
      = Ideal.exp ((Ideal.ofBits .f32 0x42FE0000#32 - FloatOps.sitofp (F := Ideal) FTy.f32 (BitVec.ofNat 32 i.val)) * Ideal.log (γ : EReal)) := by
    pointwise [k3_pay7, k3_pay5, k3_pay1]
  have hi := i.isLt
  rw [e, lane_real _ (by omega), ofBits_127, ← EReal.coe_sub,
    show (127 : ℝ) - (i.val : ℝ) = ((127 - i.val : ℕ) : ℝ) by rw [Nat.cast_sub (by omega)]; norm_num, exp_mul_log hγ]

theorem pay8_at : k3_pay8 (F := Ideal) (γ : EReal) (ix2 0 0) = ((γ ^ 128 : ℝ) : EReal) := by
  have e : k3_pay8 (F := Ideal) (γ : EReal) (ix2 0 0) = Ideal.exp (Ideal.ofBits .f32 0x43000000#32 * Ideal.log (γ : EReal)) := by
    pointwise [k3_pay8, k3_pay5, k3_pay1]
  rw [e, ofBits_128, show (128 : ℝ) = ((128 : ℕ) : ℝ) by norm_num, exp_mul_log hγ]

theorem pay4_at (j t : Fin 128) : k3_pay4 (F := Ideal) (γ : EReal) (ix2 j t)
    = ((if j < t then γ ^ (t.val - 1 - j.val) else 0 : ℝ) : EReal) := by
  have e : k3_pay4 (F := Ideal) (γ : EReal) (ix2 j t)
      = if (FloatOps.sitofp (F := Ideal) FTy.f32 (BitVec.ofNat 32 j.val) : EReal) < FloatOps.sitofp (F := Ideal) FTy.f32 (BitVec.ofNat 32 t.val) then
      Ideal.exp ((FloatOps.sitofp (F := Ideal) FTy.f32 (BitVec.ofNat 32 t.val) - FloatOps.sitofp (F := Ideal) FTy.f32 (BitVec.ofNat 32 j.val) - (1 : EReal))
        * Ideal.log (γ : EReal)) else 0 := by
    pointwise [k3_pay4, k3_pay5, k3_pay1]
  have hj := j.isLt
  have ht := t.isLt
  rw [e, lane_real _ (by omega), lane_real _ (by omega)]
  by_cases h : j < t
  · have h' : j.val < t.val := h
    rw [if_pos h, if_pos (by exact_mod_cast h'), ← EReal.coe_sub, ← EReal.coe_one, ← EReal.coe_sub,
      show (t.val : ℝ) - (j.val : ℝ) - 1 = ((t.val - 1 - j.val : ℕ) : ℝ) by
        rw [show t.val - 1 - j.val = t.val - (j.val + 1) by omega, Nat.cast_sub (by omega)]; push_cast; ring,
      exp_mul_log hγ]
  · have h' : ¬ j.val < t.val := h
    rw [if_neg h, if_neg (by intro hh; exact h' (by exact_mod_cast hh))]
    simp

variable (w r : FVec Ideal S8x2048 .f32) (wr rr : ℕ → Fin 8 → ℝ)
  (hw : ∀ p (s : Fin 2048), w (ix2 p s) = ((wr s.val p : ℝ) : EReal)) (hr : ∀ p (s : Fin 2048), r (ix2 p s) = ((rr s.val p : ℝ) : EReal))
include hw hr

theorem stA_real : ∀ n, 128 * n ≤ 2048 → ∀ p q : Fin 8,
    stA w (k3_pay7 (F := Ideal) (γ : EReal)) (k3_pay8 (F := Ideal) (γ : EReal)) n (ix2 p q) = ((mr γ wr (128 * n) p q : ℝ) : EReal)
  | 0, _, p, q => by
    have e : k3_pay9 (F := Ideal) (ix2 p q) = (0 : EReal) := by pointwise [k3_pay9]
    show k3_pay9 (F := Ideal) (ix2 p q) = _
    rw [e, Nat.mul_zero, mr_zero]; rfl
  | n + 1, hn, p, q => by
    have ih := stA_real n (by omega) p q
    have hb : 128 * n + 128 ≤ 2048 := by omega
    have e : stA w (k3_pay7 (F := Ideal) (γ : EReal)) (k3_pay8 (F := Ideal) (γ : EReal)) (n + 1)
        = stepA w (k3_pay7 (F := Ideal) (γ : EReal)) (k3_pay8 (F := Ideal) (γ : EReal)) (128 * n) hb
            (stA w (k3_pay7 (F := Ideal) (γ : EReal)) (k3_pay8 (F := Ideal) (γ : EReal)) n) := dif_pos hb
    rw [e]
    show k3_pay8 (F := Ideal) (γ : EReal) (ix2 0 0) * stA w (k3_pay7 (F := Ideal) (γ : EReal)) (k3_pay8 (F := Ideal) (γ : EReal)) n (ix2 p q)
      + ∑ k : Fin 128, (w (ix2 p ⟨128 * n + k.val, _⟩) * k3_pay7 (F := Ideal) (γ : EReal) (ix2 0 k)) * w (ix2 q ⟨128 * n + k.val, _⟩) = _
    rw [ih, pay8_at hγ, Nat.mul_succ, mr_add, EReal.coe_add, EReal.coe_mul]
    congr 1
    rw [← Fin.sum_univ_eq_sum_range (fun k => γ ^ (128 - 1 - k) * (wr (128 * n + k) p * wr (128 * n + k) q)), ← coe_sum]
    refine Finset.sum_congr rfl fun k _ => ?_
    rw [hw, hw, pay7_at hγ, ← EReal.coe_mul, ← EReal.coe_mul]
    congr 1
    show wr (128 * n + k.val) p * γ ^ (127 - k.val) * wr (128 * n + k.val) q = γ ^ (127 - k.val) * (wr (128 * n + k.val) p * wr (128 * n + k.val) q)
    ring

theorem pair_real (s t : Fin 2048) : (∑ p : Fin 8, w (ix2 p s) * r (ix2 p t)) = ((∑ p : Fin 8, wr s.val p * rr t.val p : ℝ) : EReal) := by
  rw [← coe_sum]
  exact Finset.sum_congr rfl fun p _ => by rw [hw, hr, EReal.coe_mul]

/-- The score at column `t` is the quadratic form of the state after `t` steps. -/
theorem scan_real (t : Fin 2048) : scanAt w r (γ : EReal) t = ((qr γ wr t.val (rr t.val) : ℝ) : EReal) := by
  have ht := t.isLt
  obtain ⟨n, z, hz⟩ : ∃ (n : ℕ) (z : Fin 128), t.val = 128 * n + z.val :=
    ⟨t.val / 128, ⟨t.val % 128, Nat.mod_lt _ (by decide)⟩, by show t.val = 128 * (t.val / 128) + t.val % 128; omega⟩
  have hzl := z.isLt
  have hn : 128 * n + 128 ≤ 2048 := by omega
  rw [scan_of w r (γ : EReal) t n hn z hz]
  have et : (⟨128 * n + z.val, lt_of_lt_of_le (Nat.add_lt_add_left z.isLt _) hn⟩ : Fin 2048) = t := Fin.ext hz.symm
  have h1 : scanN w r (γ : EReal) n hn z = k3_pay6 (F := Ideal) (γ : EReal) (ix2 0 z)
      * (∑ p : Fin 8, (∑ q : Fin 8, stA w (k3_pay7 (F := Ideal) (γ : EReal)) (k3_pay8 (F := Ideal) (γ : EReal)) n (ix2 q p) * r (ix2 q t)) * r (ix2 p t))
      + ∑ j : Fin 128, ((∑ p : Fin 8, w (ix2 p ⟨128 * n + j.val, lt_of_lt_of_le (Nat.add_lt_add_left j.isLt _) hn⟩) * r (ix2 p t))
        * (∑ p : Fin 8, w (ix2 p ⟨128 * n + j.val, lt_of_lt_of_le (Nat.add_lt_add_left j.isLt _) hn⟩) * r (ix2 p t)))
        * k3_pay4 (F := Ideal) (γ : EReal) (ix2 j z) := by
    rw [← et]; rfl
  have h2 : (∑ p : Fin 8, (∑ q : Fin 8, stA w (k3_pay7 (F := Ideal) (γ : EReal)) (k3_pay8 (F := Ideal) (γ : EReal)) n (ix2 q p) * r (ix2 q t)) * r (ix2 p t))
      = ((qr γ wr (128 * n) (rr t.val) : ℝ) : EReal) := by
    rw [← quad_mr, ← coe_sum]
    refine Finset.sum_congr rfl fun p _ => ?_
    rw [EReal.coe_mul, ← coe_sum, hr]
    congr 1
    refine Finset.sum_congr rfl fun q _ => ?_
    rw [stA_real hγ w r wr rr hw hr n (by omega), hr, EReal.coe_mul]
  have h3 : (∑ j : Fin 128, ((∑ p : Fin 8, w (ix2 p ⟨128 * n + j.val, lt_of_lt_of_le (Nat.add_lt_add_left j.isLt _) hn⟩) * r (ix2 p t))
        * (∑ p : Fin 8, w (ix2 p ⟨128 * n + j.val, lt_of_lt_of_le (Nat.add_lt_add_left j.isLt _) hn⟩) * r (ix2 p t)))
        * k3_pay4 (F := Ideal) (γ : EReal) (ix2 j z))
      = ((∑ k ∈ Finset.range z.val, γ ^ (z.val - 1 - k) * ((∑ p, wr (128 * n + k) p * rr t.val p) * (∑ p, wr (128 * n + k) p * rr t.val p)) : ℝ) : EReal) := by
    have h4 : (∑ k ∈ Finset.range z.val, γ ^ (z.val - 1 - k) * ((∑ p, wr (128 * n + k) p * rr t.val p) * (∑ p, wr (128 * n + k) p * rr t.val p)))
        = ∑ k : Fin 128, (if k.val < z.val then γ ^ (z.val - 1 - k.val) * ((∑ p, wr (128 * n + k.val) p * rr t.val p) * (∑ p, wr (128 * n + k.val) p * rr t.val p)) else 0) := by
      rw [Fin.sum_univ_eq_sum_range (fun k => if k < z.val then γ ^ (z.val - 1 - k) * ((∑ p, wr (128 * n + k) p * rr t.val p) * (∑ p, wr (128 * n + k) p * rr t.val p)) else 0) 128]
      rw [← Finset.sum_filter]
      refine Finset.sum_congr ?_ fun _ _ => rfl
      ext k
      simp only [Finset.mem_range, Finset.mem_filter]
      omega
    rw [h4, ← coe_sum]
    refine Finset.sum_congr rfl fun j _ => ?_
    rw [pair_real hγ w r wr rr hw hr, pay4_at hγ, ← EReal.coe_mul, ← EReal.coe_mul]
    congr 1
    by_cases h : j < z
    · rw [if_pos h, if_pos (show j.val < z.val from h)]
      ring
    · rw [if_neg h, if_neg (show ¬ j.val < z.val from h), mul_zero]
  rw [h1, h2, h3, pay6_at hγ, hz, qr_add, ← hz, EReal.coe_add, EReal.coe_mul]

end

end Cert.KernelIdeal.Value
end
-- ==== Proof.Region2.lean ====
/- Call 2 (the lines): each result array as a function of the arrays the call reads. -/
module

public import proofs.«01_k».proof.Proof.Gen.KernelIdeal.Frame
public import Idealize.ShloMosaic.Lib.Pipeline.ValueKit
public import Idealize.ShloMosaic.Lib.Pointwise
public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Spec

variable (V : (c : Dev nD) → (b : Ref sig .tc) → Buf (Elt Ideal) (c.tc.loc b))

/-- Point coordinate `e` of head `h` at time `t` in a block, the first point's at `o = 0` and the second's at `o = 4`. -/
def pt (x : FVec Ideal S1x128x2048 .f32) (o : ℕ) (ho : o + 4 ≤ 8) (h : Fin 16) (t : Fin 2048) (e : Fin 4) : EReal :=
  x (ix3 0 ⟨h.val * 8 + (o + e.val), by omega⟩ t)

section
variable (x0 x1 : FVec Ideal S1x128x2048 .f32) (h : Fin 16) (t : Fin 2048)

theorem inv_w : k2_pay14 (F := Ideal) (k2_pay30 x0 x1) (k2_pay32 x0 x1) (k2_pay33 x0 x1) (k2_pay34 x0 x1) (k2_pay35 x0 x1) (k2_pay36 x0 x1) (k2_pay37 x0 x1) (ix2 h t)
    = Ideal.div 1 (nrm (pt x0 0 (by omega) h t) (pt x0 4 (by omega) h t)) := by
  pointwise [k2_pay14, k2_pay12, k2_pay13, k2_pay30, k2_pay32, k2_pay33, k2_pay34, k2_pay35, k2_pay36, k2_pay37, k2_pay4, k2_pay6, k2_pay7, k2_pay8, k2_pay9, k2_pay10, k2_pay11, nrm, sq6, plk, pt]

theorem line_w01 : k2_pay15 (F := Ideal) (k2_pay30 x0 x1) (k2_pay32 x0 x1) (k2_pay33 x0 x1) (k2_pay34 x0 x1) (k2_pay35 x0 x1) (k2_pay36 x0 x1) (k2_pay37 x0 x1) (ix2 h t)
    = line (pt x0 0 (by omega) h t) (pt x0 4 (by omega) h t) 0 1 := by
  pointwise [k2_pay15, k2_pay14, k2_pay12, k2_pay13, k2_pay30, k2_pay32, k2_pay33, k2_pay34, k2_pay35, k2_pay36, k2_pay37, k2_pay4, k2_pay6, k2_pay7, k2_pay8, k2_pay9, k2_pay10, k2_pay11, line, nrm, sq6, plk, pt]

theorem line_w02 : k2_pay16 (F := Ideal) (k2_pay30 x0 x1) (k2_pay32 x0 x1) (k2_pay33 x0 x1) (k2_pay34 x0 x1) (k2_pay35 x0 x1) (k2_pay36 x0 x1) (k2_pay37 x0 x1) (ix2 h t)
    = line (pt x0 0 (by omega) h t) (pt x0 4 (by omega) h t) 0 2 := by
  pointwise [k2_pay16, k2_pay14, k2_pay12, k2_pay13, k2_pay30, k2_pay32, k2_pay33, k2_pay34, k2_pay35, k2_pay36, k2_pay37, k2_pay4, k2_pay6, k2_pay7, k2_pay8, k2_pay9, k2_pay10, k2_pay11, line, nrm, sq6, plk, pt]

theorem line_w03 : k2_pay17 (F := Ideal) (k2_pay30 x0 x1) (k2_pay32 x0 x1) (k2_pay33 x0 x1) (k2_pay34 x0 x1) (k2_pay35 x0 x1) (k2_pay36 x0 x1) (k2_pay37 x0 x1) (ix2 h t)
    = line (pt x0 0 (by omega) h t) (pt x0 4 (by omega) h t) 0 3 := by
  pointwise [k2_pay17, k2_pay14, k2_pay12, k2_pay13, k2_pay30, k2_pay32, k2_pay33, k2_pay34, k2_pay35, k2_pay36, k2_pay37, k2_pay4, k2_pay6, k2_pay7, k2_pay8, k2_pay9, k2_pay10, k2_pay11, line, nrm, sq6, plk, pt]

theorem line_w12 : k2_pay18 (F := Ideal) (k2_pay30 x0 x1) (k2_pay32 x0 x1) (k2_pay33 x0 x1) (k2_pay34 x0 x1) (k2_pay35 x0 x1) (k2_pay36 x0 x1) (k2_pay37 x0 x1) (ix2 h t)
    = line (pt x0 0 (by omega) h t) (pt x0 4 (by omega) h t) 1 2 := by
  pointwise [k2_pay18, k2_pay14, k2_pay12, k2_pay13, k2_pay30, k2_pay32, k2_pay33, k2_pay34, k2_pay35, k2_pay36, k2_pay37, k2_pay4, k2_pay6, k2_pay7, k2_pay8, k2_pay9, k2_pay10, k2_pay11, line, nrm, sq6, plk, pt]

theorem line_w13 : k2_pay19 (F := Ideal) (k2_pay30 x0 x1) (k2_pay32 x0 x1) (k2_pay33 x0 x1) (k2_pay34 x0 x1) (k2_pay35 x0 x1) (k2_pay36 x0 x1) (k2_pay37 x0 x1) (ix2 h t)
    = line (pt x0 0 (by omega) h t) (pt x0 4 (by omega) h t) 1 3 := by
  pointwise [k2_pay19, k2_pay14, k2_pay12, k2_pay13, k2_pay30, k2_pay32, k2_pay33, k2_pay34, k2_pay35, k2_pay36, k2_pay37, k2_pay4, k2_pay6, k2_pay7, k2_pay8, k2_pay9, k2_pay10, k2_pay11, line, nrm, sq6, plk, pt]

theorem line_w23 : k2_pay20 (F := Ideal) (k2_pay30 x0 x1) (k2_pay32 x0 x1) (k2_pay33 x0 x1) (k2_pay34 x0 x1) (k2_pay35 x0 x1) (k2_pay36 x0 x1) (k2_pay37 x0 x1) (ix2 h t)
    = line (pt x0 0 (by omega) h t) (pt x0 4 (by omega) h t) 2 3 := by
  pointwise [k2_pay20, k2_pay14, k2_pay12, k2_pay13, k2_pay30, k2_pay32, k2_pay33, k2_pay34, k2_pay35, k2_pay36, k2_pay37, k2_pay4, k2_pay6, k2_pay7, k2_pay8, k2_pay9, k2_pay10, k2_pay11, line, nrm, sq6, plk, pt]

theorem plk_r01 : k2_pay38 (F := Ideal) x0 x1 (ix2 h t) = plk (pt x1 0 (by omega) h t) (pt x1 4 (by omega) h t) 0 1 := by
  pointwise [k2_pay38, k2_pay21, k2_pay22, k2_pay23, k2_pay24, k2_pay25, k2_pay26, k2_pay27, k2_pay28, k2_pay39, k2_pay40, k2_pay31, k2_pay5, plk, pt]

theorem plk_r02 : k2_pay24 (F := Ideal) (k2_pay31 x0 x1) (k2_pay39 x0 x1) (k2_pay40 x0 x1) (ix2 h t) = plk (pt x1 0 (by omega) h t) (pt x1 4 (by omega) h t) 0 2 := by
  pointwise [k2_pay38, k2_pay21, k2_pay22, k2_pay23, k2_pay24, k2_pay25, k2_pay26, k2_pay27, k2_pay28, k2_pay39, k2_pay40, k2_pay31, k2_pay5, plk, pt]

theorem plk_r03 : k2_pay25 (F := Ideal) (k2_pay31 x0 x1) (ix2 h t) = plk (pt x1 0 (by omega) h t) (pt x1 4 (by omega) h t) 0 3 := by
  pointwise [k2_pay38, k2_pay21, k2_pay22, k2_pay23, k2_pay24, k2_pay25, k2_pay26, k2_pay27, k2_pay28, k2_pay39, k2_pay40, k2_pay31, k2_pay5, plk, pt]

theorem plk_r12 : k2_pay26 (F := Ideal) (k2_pay31 x0 x1) (ix2 h t) = plk (pt x1 0 (by omega) h t) (pt x1 4 (by omega) h t) 1 2 := by
  pointwise [k2_pay38, k2_pay21, k2_pay22, k2_pay23, k2_pay24, k2_pay25, k2_pay26, k2_pay27, k2_pay28, k2_pay39, k2_pay40, k2_pay31, k2_pay5, plk, pt]

theorem plk_r13 : k2_pay27 (F := Ideal) (k2_pay31 x0 x1) (ix2 h t) = plk (pt x1 0 (by omega) h t) (pt x1 4 (by omega) h t) 1 3 := by
  pointwise [k2_pay38, k2_pay21, k2_pay22, k2_pay23, k2_pay24, k2_pay25, k2_pay26, k2_pay27, k2_pay28, k2_pay39, k2_pay40, k2_pay31, k2_pay5, plk, pt]

theorem plk_r23 : k2_pay28 (F := Ideal) (k2_pay31 x0 x1) (ix2 h t) = plk (pt x1 0 (by omega) h t) (pt x1 4 (by omega) h t) 2 3 := by
  pointwise [k2_pay38, k2_pay21, k2_pay22, k2_pay23, k2_pay24, k2_pay25, k2_pay26, k2_pay27, k2_pay28, k2_pay39, k2_pay40, k2_pay31, k2_pay5, plk, pt]

theorem sq_r : k2_pay29 (F := Ideal) (k2_pay31 x0 x1) (k2_pay38 x0 x1) (k2_pay39 x0 x1) (k2_pay40 x0 x1) (ix2 h t)
    = sq6 (pt x1 0 (by omega) h t) (pt x1 4 (by omega) h t) := by
  pointwise [k2_pay29, plk_r01, plk_r02, plk_r03, plk_r12, plk_r13, plk_r23, sq6]

/-- The written block at a row. -/
theorem row_w (r : Fin 128) : k2_pay2 (F := Ideal) (k2_pay15 (k2_pay30 x0 x1) (k2_pay32 x0 x1) (k2_pay33 x0 x1) (k2_pay34 x0 x1) (k2_pay35 x0 x1) (k2_pay36 x0 x1) (k2_pay37 x0 x1)) (k2_pay16 (k2_pay30 x0 x1) (k2_pay32 x0 x1) (k2_pay33 x0 x1) (k2_pay34 x0 x1) (k2_pay35 x0 x1) (k2_pay36 x0 x1) (k2_pay37 x0 x1)) (k2_pay17 (k2_pay30 x0 x1) (k2_pay32 x0 x1) (k2_pay33 x0 x1) (k2_pay34 x0 x1) (k2_pay35 x0 x1) (k2_pay36 x0 x1) (k2_pay37 x0 x1)) (k2_pay18 (k2_pay30 x0 x1) (k2_pay32 x0 x1) (k2_pay33 x0 x1) (k2_pay34 x0 x1) (k2_pay35 x0 x1) (k2_pay36 x0 x1) (k2_pay37 x0 x1)) (k2_pay19 (k2_pay30 x0 x1) (k2_pay32 x0 x1) (k2_pay33 x0 x1) (k2_pay34 x0 x1) (k2_pay35 x0 x1) (k2_pay36 x0 x1) (k2_pay37 x0 x1)) (k2_pay20 (k2_pay30 x0 x1) (k2_pay32 x0 x1) (k2_pay33 x0 x1) (k2_pay34 x0 x1) (k2_pay35 x0 x1) (k2_pay36 x0 x1) (k2_pay37 x0 x1)) (ix3 0 r t)
    = jrow (pt x0 0 (by omega) ⟨r.val / 8, by omega⟩ t) (pt x0 4 (by omega) ⟨r.val / 8, by omega⟩ t) (r.val % 8) := by
  pointwise [k2_pay2, k2_pay1, line_w01, line_w02, line_w03, line_w12, line_w13, line_w23]
  have hq : r.val % 8 < 8 := Nat.mod_lt _ (by decide)
  unfold jrow
  have hq' : r.val % 8 = 0 ∨ r.val % 8 = 1 ∨ r.val % 8 = 2 ∨ r.val % 8 = 3 ∨ r.val % 8 = 4 ∨ r.val % 8 = 5 ∨ r.val % 8 = 6
    ∨ r.val % 8 = 7 := by omega
  rcases hq' with h | h | h | h | h | h | h | h <;> simp [h]

/-- The read block at a row. -/
theorem row_r (r : Fin 128) : k2_pay3 (F := Ideal) (k2_pay38 x0 x1) (k2_pay24 (k2_pay31 x0 x1) (k2_pay39 x0 x1) (k2_pay40 x0 x1)) (k2_pay25 (k2_pay31 x0 x1)) (k2_pay26 (k2_pay31 x0 x1)) (k2_pay27 (k2_pay31 x0 x1)) (k2_pay28 (k2_pay31 x0 x1)) (k2_pay29 (k2_pay31 x0 x1) (k2_pay38 x0 x1) (k2_pay39 x0 x1) (k2_pay40 x0 x1)) (ix3 0 r t)
    = rrow (pt x1 0 (by omega) ⟨r.val / 8, by omega⟩ t) (pt x1 4 (by omega) ⟨r.val / 8, by omega⟩ t) (r.val % 8) := by
  pointwise [k2_pay3, k2_pay1, plk_r01, plk_r02, plk_r03, plk_r12, plk_r13, plk_r23, sq_r]
  have hq : r.val % 8 < 8 := Nat.mod_lt _ (by decide)
  unfold rrow line nrm
  have hq' : r.val % 8 = 0 ∨ r.val % 8 = 1 ∨ r.val % 8 = 2 ∨ r.val % 8 = 3 ∨ r.val % 8 = 4 ∨ r.val % 8 = 5 ∨ r.val % 8 = 6
    ∨ r.val % 8 = 7 := by omega
  rcases hq' with h | h | h | h | h | h | h | h <;> simp [h]

/-- Point coordinate `e` (counted from `o`) of the head that row `r` belongs to, in a whole array. -/
def gpt (x : FVec Ideal S2x128x2048 .f32) (o : ℕ) (ho : o + 4 ≤ 8) (b : Fin 2) (r : Fin 128) (t : Fin 2048) (e : Fin 4) : EReal :=
  x (ix3 b ⟨r.val / 8 * 8 + (o + e.val), by omega⟩ t)

/-- Row `r` of the written lines at time `t`, from the array of points. -/
def jAt (X : FVec Ideal S2x128x2048 .f32) (b : Fin 2) (r : Fin 128) (t : Fin 2048) : EReal :=
  jrow (gpt X 0 (by omega) b r t) (gpt X 4 (by omega) b r t) (r.val % 8)

/-- Row `r` of the read lines at time `t`, from the array of points. -/
def rAt (X : FVec Ideal S2x128x2048 .f32) (b : Fin 2) (r : Fin 128) (t : Fin 2048) : EReal :=
  rrow (gpt X 0 (by omega) b r t) (gpt X 4 (by omega) b r t) (r.val % 8)

/-- The block at an index, read off the array that the call's block is a part of. -/
theorem at_w (y : S1x128x2048.Idx) (j : S2x128x2048.Idx) (X : FVec Ideal S2x128x2048 .f32) (h1 : (j 1 : Fin 128) = y 1)
    (h2 : (j 2 : Fin 2048) = y 2) (hX : ∀ (r : Fin 128) (u : Fin 2048), x0 (ix3 0 r u) = X (ix3 (j 0) r u)) :
    k2_pay2 (F := Ideal) (k2_pay15 (k2_pay30 x0 x1) (k2_pay32 x0 x1) (k2_pay33 x0 x1) (k2_pay34 x0 x1) (k2_pay35 x0 x1) (k2_pay36 x0 x1) (k2_pay37 x0 x1)) (k2_pay16 (k2_pay30 x0 x1) (k2_pay32 x0 x1) (k2_pay33 x0 x1) (k2_pay34 x0 x1) (k2_pay35 x0 x1) (k2_pay36 x0 x1) (k2_pay37 x0 x1)) (k2_pay17 (k2_pay30 x0 x1) (k2_pay32 x0 x1) (k2_pay33 x0 x1) (k2_pay34 x0 x1) (k2_pay35 x0 x1) (k2_pay36 x0 x1) (k2_pay37 x0 x1)) (k2_pay18 (k2_pay30 x0 x1) (k2_pay32 x0 x1) (k2_pay33 x0 x1) (k2_pay34 x0 x1) (k2_pay35 x0 x1) (k2_pay36 x0 x1) (k2_pay37 x0 x1)) (k2_pay19 (k2_pay30 x0 x1) (k2_pay32 x0 x1) (k2_pay33 x0 x1) (k2_pay34 x0 x1) (k2_pay35 x0 x1) (k2_pay36 x0 x1) (k2_pay37 x0 x1)) (k2_pay20 (k2_pay30 x0 x1) (k2_pay32 x0 x1) (k2_pay33 x0 x1) (k2_pay34 x0 x1) (k2_pay35 x0 x1) (k2_pay36 x0 x1) (k2_pay37 x0 x1)) y
    = jAt X (j 0) (j 1) (j 2) := by
  idx_vars y
  rw [show y0 = (0 : Fin 1) from Subsingleton.elim _ _, row_w]
  have h1' : (j 1 : Fin 128) = y1 := h1
  have h2' : (j 2 : Fin 2048) = y2 := h2
  rw [h1', h2']
  unfold jAt
  congr 1 <;> exact funext fun e => hX _ _

/-- The block at an index, read off the array that the call's block is a part of. -/
theorem at_r (y : S1x128x2048.Idx) (j : S2x128x2048.Idx) (X : FVec Ideal S2x128x2048 .f32) (h1 : (j 1 : Fin 128) = y 1)
    (h2 : (j 2 : Fin 2048) = y 2) (hX : ∀ (r : Fin 128) (u : Fin 2048), x1 (ix3 0 r u) = X (ix3 (j 0) r u)) :
    k2_pay3 (F := Ideal) (k2_pay38 x0 x1) (k2_pay24 (k2_pay31 x0 x1) (k2_pay39 x0 x1) (k2_pay40 x0 x1)) (k2_pay25 (k2_pay31 x0 x1)) (k2_pay26 (k2_pay31 x0 x1)) (k2_pay27 (k2_pay31 x0 x1)) (k2_pay28 (k2_pay31 x0 x1)) (k2_pay29 (k2_pay31 x0 x1) (k2_pay38 x0 x1) (k2_pay39 x0 x1) (k2_pay40 x0 x1)) y
    = rAt X (j 0) (j 1) (j 2) := by
  idx_vars y
  rw [show y0 = (0 : Fin 1) from Subsingleton.elim _ _, row_r]
  have h1' : (j 1 : Fin 128) = y1 := h1
  have h2' : (j 2 : Fin 2048) = y2 := h2
  rw [h1', h2']
  unfold rAt
  congr 1 <;> exact funext fun e => hX _ _

end

theorem idx2 : ∀ t : Fin cfg2.N, win2_0.index t = ![t.val, 0, 0] ∧ win2_1.index t = ![t.val, 0, 0]
    ∧ win2_2.index t = ![t.val, 0, 0] ∧ win2_3.index t = ![t.val, 0, 0] :=
  (by decide +kernel : ∀ t : Fin grid2.N, _)

/-- The written lines. -/
theorem final2_2 (c : Dev nD) : (dat2 V c).arrAt 2 cfg2.N
    = fun i : S2x128x2048.Idx => jAt (V c main_v31) (i 0) (i 1) (i 2) := by
  refine (dat2 V c).arrAt_eq_of_covers 2 _ (by decide +kernel) fun t _ y => ?_
  blk_simp
  rw [after2_2]
  frame_out
  refine at_w (iblk2 V c 0 t) (iblk2 V c 1 t) y (((cfg2.win 2).blk t).view.emb y) (V c main_v31) ?_ ?_ fun r u => ?_
  · refine Fin.ext ?_
    blk_simp [idx2 t]
    try omega
  · refine Fin.ext ?_
    blk_simp [idx2 t]
    try omega
  · blk_ext [iblk2, idx2 t]

/-- The read lines. -/
theorem final2_3 (c : Dev nD) : (dat2 V c).arrAt 3 cfg2.N
    = fun i : S2x128x2048.Idx => rAt (V c main_v34) (i 0) (i 1) (i 2) := by
  refine (dat2 V c).arrAt_eq_of_covers 3 _ (by decide +kernel) fun t _ y => ?_
  blk_simp
  rw [after2_3]
  frame_out
  refine at_r (iblk2 V c 0 t) (iblk2 V c 1 t) y (((cfg2.win 3).blk t).view.emb y) (V c main_v34) ?_ ?_ fun r u => ?_
  · refine Fin.ext ?_
    blk_simp [idx2 t]
    try omega
  · refine Fin.ext ?_
    blk_simp [idx2 t]
    try omega
  · blk_ext [iblk2, idx2 t]

end Cert.KernelIdeal.Value

end
-- ==== Proof.KerMid.lean ====
/- The idealized kernel's attention, lines and scan, as the arguments give them. -/
module

public import proofs.«01_k».proof.Proof.Gen.KernelIdeal.Frame
public import Idealize.ShloMosaic.Lib.StableHlo.RunRead
public import Idealize.ShloMosaic.Lib.Pipeline.ValueKit
public import Idealize.ShloMosaic.Lib.Pointwise
public import proofs.«01_k».proof.Proof.Common
public import proofs.«01_k».proof.Proof.KerProj
public import proofs.«01_k».proof.Proof.AttnRows
public import proofs.«01_k».proof.Proof.ScanRows
public import proofs.«01_k».proof.Proof.Region2

@[expose] public section

set_option maxRecDepth 16384

noncomputable section

open Idealize.ShloMosaic Idealize.ShloMosaic.TcCoe Idealize.ShloMosaic.StableHlo Idealize.SL.Sem

namespace Cert.KernelIdeal.Value

open Cert.KernelIdeal Cert.KernelIdeal.Gen Cert.Spec

variable (m : (ℓ : Loc nD τ sig) → Buf (Elt Ideal) ℓ) (ρ : Dev nD → PrngReg) (c : Dev nD)

/-! ### Attention -/

theorem hd_q (b : Fin 2) (h : Fin 16) : hdA (V3 m ρ c main_v12) b h = (I0 m ρ c).q b h :=
  funext fun t => funext fun d => (h1_v12 (W2 m ρ c) b t h d).trans (k2_q m ρ c b t _ _ (Nat.zero_add _).symm)
theorem hd_k (b : Fin 2) (h : Fin 16) : hdA (V3 m ρ c main_v13) b h = (I0 m ρ c).k b h :=
  funext fun t => funext fun d => (h1_v13 (W2 m ρ c) b t h d).trans (k2_k m ρ c b t _ _ (Nat.add_assoc _ _ _))
theorem hd_v (b : Fin 2) (h : Fin 16) : hdA (V3 m ρ c main_v14) b h = (I0 m ρ c).v b h :=
  funext fun t => funext fun d => (h1_v14 (W2 m ρ c) b t h d).trans (k2_v m ρ c b t _ _ (Nat.add_assoc _ _ _))

theorem k4_seq (hI : (I0 m ρ c).Good) (b : Fin 2) (t : Fin 2048) (h : Fin 16) (d : Fin 64) :
    b15 (W4 m ρ c) (ix5 b t h 0 d) = (I0 m ρ c).seqE b h t d := by
  have e1 : b15 (W4 m ρ c) (ix5 b t h 0 d)
      = att (hdA (V3 m ρ c main_v12) b h) (hdA (V3 m ρ c main_v13) b h) (hdA (V3 m ρ c main_v14) b h) t d :=
    (congrFun (W4_arr m ρ c 3) (ix5 b t h 0 d)).trans (congrFun (final1_3 (V3 m ρ) c) (ix5 b t h 0 d))
  rw [e1, hd_q, hd_k, hd_v]
  exact att_eq _ _ _ (hI.q b h) (hI.k b h) (fun t d => ((I0 m ρ c).v b h t d).toReal) (hI.v b h) t d

/-! ### Lines -/

theorem keep3 (i : S4096x272.Idx) : b11_3 (W4 m ρ c) i = b11_3 (W2 m ρ c) i :=
  congrFun ((W4_of m ρ c main_v11_3 (by decide +kernel)).trans (W3_of m ρ c main_v11_3 (by decide +kernel))) i

theorem prv_lin (I : Inp) (b : Fin 2) (t : Fin 2048) (n : Fin 64) (ht : ¬ t.val < 1) :
    lin I.X I.W1w b ⟨t.val - 1, by have := t.isLt; omega⟩ n = lin (prv I.X) I.W1w b t n :=
  Finset.sum_congr rfl fun k _ => by
    have e : prv I.X b t k = I.X b ⟨t.val - 1, by have := t.isLt; omega⟩ k := dif_neg ht
    rw [e]
theorem prv_lin0 (I : Inp) (b : Fin 2) (t : Fin 2048) (n : Fin 64) (ht : t.val < 1) : 0 = lin (prv I.X) I.W1w b t n :=
  (Finset.sum_eq_zero fun k _ => by
    have e : prv I.X b t k = 0 := dif_pos ht
    rw [e, zero_mul]).symm

theorem g_wa (b : Fin 2) (r : Fin 128) (t : Fin 2048) (h : Fin 16) (hr : r.val / 8 = h.val) :
    gpt (V5 m ρ c main_v31) 0 (by omega) b r t = (I0 m ρ c).wa b h t := by
  funext e
  have he := e.isLt
  have hh := h.isLt
  refine (h2_v31 (W4 m ρ c) b _ t).trans ?_
  rw [dif_pos (show (r.val / 8 * 8 + (0 + e.val)) % 8 < 4 by omega)]
  by_cases ht : t.val < 1
  · rw [dif_pos ht]
    exact prv_lin0 (I0 m ρ c) b t _ ht
  · rw [dif_neg ht]
    refine (keep3 m ρ c _).trans ((k2_1w m ρ c b ⟨t.val - 1, by have := t.isLt; omega⟩ ⟨h.val * 4 + e.val, by omega⟩ _ ?_).trans (prv_lin (I0 m ρ c) b t _ ht))
    show (r.val / 8 * 8 + (0 + e.val)) / 8 * 4 + (r.val / 8 * 8 + (0 + e.val)) % 8 = h.val * 4 + e.val
    omega
theorem g_wb (b : Fin 2) (r : Fin 128) (t : Fin 2048) (h : Fin 16) (hr : r.val / 8 = h.val) :
    gpt (V5 m ρ c main_v31) 4 (by omega) b r t = (I0 m ρ c).wb b h t := by
  funext e
  have he := e.isLt
  have hh := h.isLt
  refine (h2_v31 (W4 m ρ c) b _ t).trans ?_
  rw [dif_neg (show ¬ (r.val / 8 * 8 + (4 + e.val)) % 8 < 4 by omega)]
  refine (keep3 m ρ c _).trans (k2_2w m ρ c b t ⟨h.val * 4 + e.val, by omega⟩ _ ?_)
  show 64 + ((r.val / 8 * 8 + (4 + e.val)) / 8 * 4 + ((r.val / 8 * 8 + (4 + e.val)) % 8 - 4)) = 64 + (h.val * 4 + e.val)
  omega
theorem g_ra (b : Fin 2) (r : Fin 128) (t : Fin 2048) (h : Fin 16) (hr : r.val / 8 = h.val) :
    gpt (V5 m ρ c main_v34) 0 (by omega) b r t = (I0 m ρ c).ra b h t := by
  funext e
  have he := e.isLt
  have hh := h.isLt
  refine (h2_v34 (W4 m ρ c) b _ t).trans ?_
  rw [dif_pos (show (r.val / 8 * 8 + (0 + e.val)) % 8 < 4 by omega)]
  refine (keep3 m ρ c _).trans (k2_1r m ρ c b t ⟨h.val * 4 + e.val, by omega⟩ _ ?_)
  show 128 + ((r.val / 8 * 8 + (0 + e.val)) / 8 * 4 + (r.val / 8 * 8 + (0 + e.val)) % 8) = 128 + (h.val * 4 + e.val)
  omega
theorem g_rb (b : Fin 2) (r : Fin 128) (t : Fin 2048) (h : Fin 16) (hr : r.val / 8 = h.val) :
    gpt (V5 m ρ c main_v34) 4 (by omega) b r t = (I0 m ρ c).rb b h t := by
  funext e
  have he := e.isLt
  have hh := h.isLt
  refine (h2_v34 (W4 m ρ c) b _ t).trans ?_
  rw [dif_neg (show ¬ (r.val / 8 * 8 + (4 + e.val)) % 8 < 4 by omega)]
  refine (keep3 m ρ c _).trans (k2_2r m ρ c b t ⟨h.val * 4 + e.val, by omega⟩ _ ?_)
  show 192 + ((r.val / 8 * 8 + (4 + e.val)) / 8 * 4 + ((r.val / 8 * 8 + (4 + e.val)) % 8 - 4)) = 192 + (h.val * 4 + e.val)
  omega

theorem k6_w (b : Fin 2) (r : Fin 128) (t : Fin 2048) (h : Fin 16) (p : Fin 8) (hr : r.val = h.val * 8 + p.val) :
    b35_0 (W6 m ρ c) (ix3 b r t) = ((I0 m ρ c).wrow b h t.val p : EReal) := by
  have hp := p.isLt
  have e1 : b35_0 (W6 m ρ c) (ix3 b r t) = jAt (V5 m ρ c main_v31) b r t :=
    (congrFun (W6_arr m ρ c 2) (ix3 b r t)).trans (congrFun (final2_2 (V5 m ρ) c) (ix3 b r t))
  rw [e1, Inp.wrow_coe]
  unfold jAt
  rw [g_wa m ρ c b r t h (by omega), g_wb m ρ c b r t h (by omega), show r.val % 8 = p.val by omega]
theorem k6_r (b : Fin 2) (r : Fin 128) (t : Fin 2048) (h : Fin 16) (p : Fin 8) (hr : r.val = h.val * 8 + p.val) :
    b35_1 (W6 m ρ c) (ix3 b r t) = ((I0 m ρ c).rrw b h t.val p : EReal) := by
  have hp := p.isLt
  have e1 : b35_1 (W6 m ρ c) (ix3 b r t) = rAt (V5 m ρ c main_v34) b r t :=
    (congrFun (W6_arr m ρ c 3) (ix3 b r t)).trans (congrFun (final2_3 (V5 m ρ) c) (ix3 b r t))
  rw [e1, Inp.rrw_coe]
  unfold rAt
  rw [g_ra m ρ c b r t h (by omega), g_rb m ρ c b r t h (by omega), show r.val % 8 = p.val by omega]

/-! ### Scan -/

theorem dec_at (hI : (I0 m ρ c).Good) : (after hostOps3 (W6 m ρ c) (Proc.devRef .tc main_v41) : FVec Ideal S1x1 .f32) (ix2 0 0)
    = ((((I0 m ρ c).A 0 0 0).toReal * ((I0 m ρ c).A 0 0 0).toReal : ℝ) : EReal) := by
  have ea : a14 (W6 m ρ c) (ix3 0 0 0) = (I0 m ρ c).A 0 0 0 := congrFun (W6_args m ρ c main_arg14 (by decide)) (ix3 0 0 0)
  obtain ⟨a, ha⟩ := hI.a
  refine (h3_v41 (W6 m ρ c)).trans ?_
  rw [ea, ha, EReal.toReal_coe, EReal.coe_mul]

theorem k8_mem (hI : (I0 m ρ c).Good) (g : Fin 32) (t : Fin 2048) (b : Fin 2) (h : Fin 16) (hg : g.val = b.val * 16 + h.val) :
    b44 (W8 m ρ c) (ix3 g 0 t) = (I0 m ρ c).memE b h t := by
  have hh := h.isLt
  have eb : (⟨g.val / 16, by have := g.isLt; omega⟩ : Fin 2) = b := Fin.ext (by show g.val / 16 = b.val; omega)
  have e1 : b44 (W8 m ρ c) (ix3 g 0 t) = scanAt (rowsA (V7 m ρ c main_v42) g) (rowsA (V7 m ρ c main_v43) g) (V7 m ρ c main_v41 (ix2 0 0)) t :=
    (congrFun (W8_arr m ρ c 3) (ix3 g 0 t)).trans (congrFun (final3_3 (V7 m ρ) c) (ix3 g 0 t))
  refine e1.trans ((congrArg (fun z => scanAt (rowsA (V7 m ρ c main_v42) g) (rowsA (V7 m ρ c main_v43) g) z t) (dec_at m ρ c hI)).trans ?_)
  refine scan_real (mul_self_nonneg _) _ _ ((I0 m ρ c).wrow b h) ((I0 m ρ c).rrw b h) (fun p s => ?_) (fun p s => ?_) t
  · refine (h3_v42 (W6 m ρ c) g p s).trans ?_
    rw [eb]
    exact k6_w m ρ c b _ s h p (by show g.val % 16 * 8 + p.val = h.val * 8 + p.val; omega)
  · refine (h3_v43 (W6 m ρ c) g p s).trans ?_
    rw [eb]
    exact k6_r m ρ c b _ s h p (by show g.val % 16 * 8 + p.val = h.val * 8 + p.val; omega)

end Cert.KernelIdeal.Value
end
-- ==== Proof.Region4.lean ====
/- Call 4 (the gated output): the result array as a function of the arrays the call reads. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) (c.tc.loc b))

/-- The gate of a token: the mean over the 16 heads of the two logistic factors' product. -/
def gate (gl ms : FVec Ideal S4096x16 .f32) (sc : FVec Ideal S1x16 .f32) (r : Fin 4096) : EReal :=
  Ideal.div (∑ h : Fin 16, Ideal.logistic (ms (ix2 r h) * sc (ix2 0 h)) * Ideal.logistic (gl (ix2 r h))) (Ideal.ofBits .f32 0x41800000#32)

/-- The output row: attention plus gated memory, through the output projection. -/
def outAt (sq mv : FVec Ideal S4096x1024 .f32) (gl ms : FVec Ideal S4096x16 .f32) (sc : FVec Ideal S1x16 .f32)
    (w : FVec Ideal S1024x1024 .f32) (b : FVec Ideal S1x1024 .f32) (r : Fin 4096) (n : Fin 1024) : EReal :=
  (∑ k : Fin 1024, (sq (ix2 r k) + gate gl ms sc r * mv (ix2 r k)) * w (ix2 k n)) + b (ix2 0 n)

theorem idx4 : ∀ t : Fin cfg4.N, win4_0.index t = ![t.val, 0] ∧ win4_1.index t = ![t.val, 0] ∧ win4_2.index t = ![t.val, 0]
    ∧ win4_3.index t = ![t.val, 0] ∧ win4_4.index t = ![0, 0] ∧ win4_5.index t = ![0, 0] ∧ win4_6.index t = ![0, 0]
    ∧ win4_7.index t = ![t.val, 0] :=
  (by decide +kernel : ∀ t : Fin grid4.N, _)

/-- The output. -/
theorem final4_7 (c : Dev nD) : (dat4 V c).arrAt 7 cfg4.N
    = fun i : S4096x1024.Idx => outAt (V c main_v16) (V c main_v11_4) (V c main_v28) (V c main_v47) (V c main_v48)
        (V c main_arg12) (V c main_v49) (i 0) (i 1) := by
  refine (dat4 V c).arrAt_eq_of_covers 7 _ (by decide +kernel) fun t _ y => ?_
  blk_simp
  rw [after4_7]
  frame_out
  pointwise [k4_pay1, outAt, gate]
  blk_point [iblk4, idx4 t]

end Cert.KernelIdeal.Value

end
-- ==== Proof.KerOut.lean ====
/- The idealized kernel's result, as the arguments give it. -/
module

public import proofs.«01_k».proof.Proof.Gen.KernelIdeal.Frame
public import Idealize.ShloMosaic.Lib.StableHlo.RunRead
public import Idealize.ShloMosaic.Lib.Pipeline.ValueKit
public import Idealize.ShloMosaic.Lib.Pointwise
public import proofs.«01_k».proof.Proof.Common
public import proofs.«01_k».proof.Proof.KerMid
public import proofs.«01_k».proof.Proof.Region4

@[expose] public section

set_option maxRecDepth 16384

noncomputable section

open Idealize.ShloMosaic Idealize.ShloMosaic.TcCoe Idealize.ShloMosaic.StableHlo Idealize.SL.Sem

namespace Cert.KernelIdeal.Value

open Cert.KernelIdeal Cert.KernelIdeal.Gen Cert.Spec

variable (m : (ℓ : Loc nD τ sig) → Buf (Elt Ideal) ℓ) (ρ : Dev nD → PrngReg) (c : Dev nD)

/-- An array written by the third host stretch or before stands until the last call. -/
theorem keep_v16 : W9 m ρ c (Proc.devRef .tc main_v16) = W5 m ρ c (Proc.devRef .tc main_v16) :=
  (W9_of m ρ c main_v16 (by decide +kernel)).trans ((W8_of m ρ c main_v16 (by decide +kernel)).trans
    ((W7_of m ρ c main_v16 (by decide +kernel)).trans (W6_of m ρ c main_v16 (by decide +kernel))))
theorem keep_v28 : W9 m ρ c (Proc.devRef .tc main_v28) = W5 m ρ c (Proc.devRef .tc main_v28) :=
  (W9_of m ρ c main_v28 (by decide +kernel)).trans ((W8_of m ρ c main_v28 (by decide +kernel)).trans
    ((W7_of m ρ c main_v28 (by decide +kernel)).trans (W6_of m ρ c main_v28 (by decide +kernel))))
theorem keep_v11_4 : W9 m ρ c (Proc.devRef .tc main_v11_4) = W2 m ρ c (Proc.devRef .tc main_v11_4) :=
  (W9_of m ρ c main_v11_4 (by decide +kernel)).trans ((W8_of m ρ c main_v11_4 (by decide +kernel)).trans
    ((W7_of m ρ c main_v11_4 (by decide +kernel)).trans ((W6_of m ρ c main_v11_4 (by decide +kernel)).trans
    ((W5_of m ρ c main_v11_4 (by decide +kernel)).trans ((W4_of m ρ c main_v11_4 (by decide +kernel)).trans
      (W3_of m ρ c main_v11_4 (by decide +kernel)))))))

theorem o_sq (hI : (I0 m ρ c).Good) (b : Fin 2) (t : Fin 2048) (k : Fin 1024) :
    (W9 m ρ c (Proc.devRef .tc main_v16) : FVec Ideal S4096x1024 .f32) (ix2 (row b t) k)
      = (I0 m ρ c).seqE b ⟨k.val / 64, by have := k.isLt; omega⟩ t ⟨k.val % 64, Nat.mod_lt _ (by decide)⟩ := by
  refine (congrFun (keep_v16 m ρ c) _).trans ((h2_v16 (W4 m ρ c) (row b t) k).trans ?_)
  rw [rb_row, rt_row]
  exact k4_seq m ρ c hI b t _ _

theorem o_mv (b : Fin 2) (t : Fin 2048) (k : Fin 1024) :
    (W9 m ρ c (Proc.devRef .tc main_v11_4) : FVec Ideal S4096x1024 .f32) (ix2 (row b t) k)
      = aff (I0 m ρ c).X (I0 m ρ c).Wmv (I0 m ρ c).bmv b t k :=
  (congrFun (keep_v11_4 m ρ c) _).trans (k2_mv m ρ c b t k)

theorem o_gl (b : Fin 2) (t : Fin 2048) (h : Fin 16) :
    (W9 m ρ c (Proc.devRef .tc main_v28) : FVec Ideal S4096x16 .f32) (ix2 (row b t) h)
      = aff (I0 m ρ c).X (I0 m ρ c).Wg (I0 m ρ c).bg b t h :=
  (congrFun (keep_v28 m ρ c) _).trans ((h2_v28 (W4 m ρ c) (row b t) h).trans ((keep3 m ρ c _).trans (k2_g m ρ c b t h _ rfl)))

theorem o_ms (hI : (I0 m ρ c).Good) (b : Fin 2) (t : Fin 2048) (h : Fin 16) :
    (W9 m ρ c (Proc.devRef .tc main_v47) : FVec Ideal S4096x16 .f32) (ix2 (row b t) h) = (I0 m ρ c).memE b h t := by
  refine (h4_v47 (W8 m ρ c) (row b t) h).trans ?_
  rw [rt_row]
  refine k8_mem m ρ c hI _ t b h ?_
  have := t.isLt
  show (b.val * 2048 + t.val) / 2048 * 16 + h.val = b.val * 16 + h.val
  omega

theorem o_sc (h : Fin 16) : (W9 m ρ c (Proc.devRef .tc main_v48) : FVec Ideal S1x16 .f32) (ix2 0 h) = (I0 m ρ c).ms h :=
  (h4_v48 (W8 m ρ c) h).trans (congrFun (W8_args m ρ c main_arg11 (by decide)) (ix1 h))
theorem o_bo (n : Fin 1024) : (W9 m ρ c (Proc.devRef .tc main_v49) : FVec Ideal S1x1024 .f32) (ix2 0 n) = (I0 m ρ c).bo n :=
  (h4_v49 (W8 m ρ c) n).trans (congrFun (W8_args m ρ c main_arg13 (by decide)) (ix1 n))
theorem o_wo (k n : Fin 1024) : (W9 m ρ c (Proc.devRef .tc main_arg12) : FVec Ideal S1024x1024 .f32) (ix2 k n) = (I0 m ρ c).Wo k n :=
  congrFun (W9_args m ρ c main_arg12 (by decide)) (ix2 k n)

theorem gate_of (gl ms : FVec Ideal S4096x16 .f32) (sc : FVec Ideal S1x16 .f32) (r : Fin 4096) (G M S : Fin 16 → EReal)
    (hg : ∀ h, gl (ix2 r h) = G h) (hm : ∀ h, ms (ix2 r h) = M h) (hs : ∀ h, sc (ix2 0 h) = S h) : gate gl ms sc r
      = Ideal.div (∑ h : Fin 16, Ideal.div 1 (1 + Ideal.exp (-(M h * S h))) * Ideal.div 1 (1 + Ideal.exp (-(G h)))) (Ideal.ofBits .f32 0x41800000#32) := by
  unfold gate
  refine congrArg (fun z => Ideal.div z (Ideal.ofBits .f32 0x41800000#32)) (Finset.sum_congr rfl fun h _ => ?_)
  rw [hg, hm, hs]
  rfl

theorem outAt_of (sq mv : FVec Ideal S4096x1024 .f32) (gl ms : FVec Ideal S4096x16 .f32) (sc : FVec Ideal S1x16 .f32)
    (w : FVec Ideal S1024x1024 .f32) (b : FVec Ideal S1x1024 .f32) (r : Fin 4096) (n : Fin 1024) (Q M W : Fin 1024 → EReal) (g z : EReal)
    (hq : ∀ k, sq (ix2 r k) = Q k) (hm : ∀ k, mv (ix2 r k) = M k) (hg : gate gl ms sc r = g) (hw : ∀ k, w (ix2 k n) = W k) (hb : b (ix2 0 n) = z) :
    outAt sq mv gl ms sc w b r n = (∑ k, (Q k + g * M k) * W k) + z := by
  unfold outAt
  rw [hg, hb]
  refine congrArg (· + z) (Finset.sum_congr rfl fun k _ => ?_)
  rw [hq, hm, hw]

/-- The kernel's result at an index. -/
theorem ker_out (hI : (I0 m ρ c).Good) (b : Fin 2) (t : Fin 2048) (n : Fin 1024) :
    (W11 m ρ c (Proc.devRef .tc main_v51) : FVec Ideal S2x2048x1024 .f32) (ix3 b t n) = (I0 m ρ c).out b t n :=
  (h5_v51 (W10 m ρ c) b t n).trans ((congrFun (W10_arr m ρ c 7) (ix2 (row b t) n)).trans
    ((congrFun (final4_7 (V9 m ρ) c) (ix2 (row b t) n)).trans
      (outAt_of _ _ _ _ _ _ _ (row b t) n _ _ _ _ _ (o_sq m ρ c hI b t) (o_mv m ρ c b t)
        (gate_of _ _ _ (row b t) _ _ _ (o_gl m ρ c b t) (o_ms m ρ c hI b t) (o_sc m ρ c)) (fun k => o_wo m ρ c k n) (o_bo m ρ c n))))

end Cert.KernelIdeal.Value
end
-- ==== Proof.RefPre.lean ====
/- The reference before its loop: each stretch read at an index. -/
module

public import proofs.«01_k».proof.Proof.Gen.ReferenceIdeal.Run
public import Idealize.ShloMosaic.Lib.StableHlo.RunRead
public import Idealize.ShloMosaic.Lib.Pipeline.ValueKit
public import Idealize.ShloMosaic.Lib.Pointwise
public import proofs.«01_k».proof.Proof.Common

@[expose] public section

set_option maxRecDepth 16384

noncomputable section

open Idealize.ShloMosaic Idealize.ShloMosaic.TcCoe Idealize.ShloMosaic.StableHlo Idealize.SL.Sem

namespace Cert.ReferenceIdeal.Value

open Cert.ReferenceIdeal Cert.ReferenceIdeal.Gen Cert.Spec

variable (V : Valuation τ sig (Elt Ideal))

/-- The arguments as the valuation holds them. -/
def inp : Inp where
  X b t k := (V (Proc.devRef .tc main_arg0) : FVec Ideal S2x2048x1024 .f32) (ix3 b t k)
  Wq k n := (V (Proc.devRef .tc main_arg1) : FVec Ideal S1024x3072 .f32) (ix2 k n)
  bq n := (V (Proc.devRef .tc main_arg2) : FVec Ideal S3072 .f32) (ix1 n)
  W1w k n := (V (Proc.devRef .tc main_arg3) : FVec Ideal S1024x64 .f32) (ix2 k n)
  W2w k n := (V (Proc.devRef .tc main_arg4) : FVec Ideal S1024x64 .f32) (ix2 k n)
  W1r k n := (V (Proc.devRef .tc main_arg5) : FVec Ideal S1024x64 .f32) (ix2 k n)
  W2r k n := (V (Proc.devRef .tc main_arg6) : FVec Ideal S1024x64 .f32) (ix2 k n)
  Wmv k n := (V (Proc.devRef .tc main_arg7) : FVec Ideal S1024x1024 .f32) (ix2 k n)
  bmv n := (V (Proc.devRef .tc main_arg8) : FVec Ideal S1024 .f32) (ix1 n)
  Wg k n := (V (Proc.devRef .tc main_arg9) : FVec Ideal S1024x16 .f32) (ix2 k n)
  bg n := (V (Proc.devRef .tc main_arg10) : FVec Ideal S16 .f32) (ix1 n)
  ms n := (V (Proc.devRef .tc main_arg11) : FVec Ideal S16 .f32) (ix1 n)
  Wo k n := (V (Proc.devRef .tc main_arg12) : FVec Ideal S1024x1024 .f32) (ix2 k n)
  bo n := (V (Proc.devRef .tc main_arg13) : FVec Ideal S1024 .f32) (ix1 n)
  A h p q := (V (Proc.devRef .tc main_arg14) : FVec Ideal S16x6x6 .f32) (ix3 h p q)

/-! ## Entries of the intermediate arrays -/

abbrev g_cst_1 (V : Valuation τ sig (Elt Ideal)) (i : S_.Idx) : EReal := V (Proc.devRef .tc main_cst_1) i
abbrev g_v14 (V : Valuation τ sig (Elt Ideal)) (i : S2x16x2048x2048.Idx) : EReal := V (Proc.devRef .tc main_v14) i
abbrev g_v11 (V : Valuation τ sig (Elt Ideal)) (i : S2x16x2048x64.Idx) : EReal := V (Proc.devRef .tc main_v11) i
abbrev g_v17 (V : Valuation τ sig (Elt Ideal)) (i : S2x16x2048x2048.Idx) : EReal := V (Proc.devRef .tc main_v17) i
abbrev g_v111 (V : Valuation τ sig (Elt Ideal)) (i : S2x2048x16x6.Idx) : EReal := V (Proc.devRef .tc main_v111) i
abbrev g_v193 (V : Valuation τ sig (Elt Ideal)) (i : S2x2048x16x6.Idx) : EReal := V (Proc.devRef .tc main_v193) i
abbrev g_v112 (V : Valuation τ sig (Elt Ideal)) (i : S2x2048x16x1.Idx) : EReal := V (Proc.devRef .tc main_v112) i
abbrev g_v194 (V : Valuation τ sig (Elt Ideal)) (i : S2x2048x16x1.Idx) : EReal := V (Proc.devRef .tc main_v194) i
abbrev g_v116 (V : Valuation τ sig (Elt Ideal)) (i : S2x2048x16x6.Idx) : EReal := V (Proc.devRef .tc main_v116) i
abbrev g_cst (V : Valuation τ sig (Elt Ideal)) (i : S6x6.Idx) : EReal := V (Proc.devRef .tc main_cst) i
abbrev g_v31 (V : Valuation τ sig (Elt Ideal)) (i : S2x2048x1024.Idx) : EReal := V (Proc.devRef .tc main_v31) i
abbrev g_v204_5 (V : Valuation τ sig (Elt Ideal)) (i : S2048x2x16.Idx) : EReal := V (Proc.devRef .tc main_v204_5) i

/-! ## The stretches -/

theorem s0_v5 (c : Fin 3) (b : Fin 2) (h : Fin 16) (t : Fin 2048) (d : Fin 64) :
    (after hostOps0 V (Proc.devRef .tc main_v5) : FVec Ideal S3x2x16x2048x64 .f32) (ix5 c b h t d)
      = aff (inp V).X (inp V).Wq (inp V).bq b t ⟨c.val * 1024 + h.val * 64 + d.val, by have := c.isLt; have := h.isLt; have := d.isLt; omega⟩ := by
  after_reads_simp
  pointwise [inp, aff]

theorem slice_q (x : FVec Ideal S3x2x16x2048x64 .f32) (b : Fin 2) (h : Fin 16) (t : Fin 2048) (d : Fin 64) :
    shapeCast S2x16x2048x64 (extractStridedSlice S1x2x16x2048x64 ![0, 0, 0, 0, 0] x slices_S3x2x16x2048x64_S1x2x16x2048x64_0_0_0_0_0)
      shapeCasts_S1x2x16x2048x64_S2x16x2048x64 (ix4 b h t d) = x (ix5 0 b h t d) := by
  pointwise

theorem s0_q (b : Fin 2) (h : Fin 16) (t : Fin 2048) (d : Fin 64) :
    (after hostOps0 V (Proc.devRef .tc main_v7) : FVec Ideal S2x16x2048x64 .f32) (ix4 b h t d) = (inp V).q b h t d := by
  have e : (after hostOps0 V (Proc.devRef .tc main_v7) : FVec Ideal S2x16x2048x64 .f32)
      = shapeCast S2x16x2048x64 (extractStridedSlice S1x2x16x2048x64 ![0, 0, 0, 0, 0]
          (after hostOps0 V (Proc.devRef .tc main_v5) : FVec Ideal S3x2x16x2048x64 .f32) slices_S3x2x16x2048x64_S1x2x16x2048x64_0_0_0_0_0)
        shapeCasts_S1x2x16x2048x64_S2x16x2048x64 := by
    after_reads_simp
    rfl
  refine (congrFun e _).trans ((slice_q _ b h t d).trans ((s0_v5 V 0 b h t d).trans ?_))
  unfold Inp.q
  congr 1
  exact Fin.ext (by show 0 * 1024 + h.val * 64 + d.val = h.val * 64 + d.val; omega)

theorem s0_k (b : Fin 2) (h : Fin 16) (t : Fin 2048) (d : Fin 64) :
    (after hostOps0 V (Proc.devRef .tc main_v9) : FVec Ideal S2x16x2048x64 .f32) (ix4 b h t d) = (inp V).k b h t d := by
  after_reads_simp
  pointwise [inp, Inp.k, aff, hcol]

theorem s0_v (b : Fin 2) (h : Fin 16) (t : Fin 2048) (d : Fin 64) :
    (after hostOps0 V (Proc.devRef .tc main_v11) : FVec Ideal S2x16x2048x64 .f32) (ix4 b h t d) = (inp V).v b h t d := by
  after_reads_simp
  pointwise [inp, Inp.v, aff, hcol]

theorem dot_at (x y : FVec Ideal S2x16x2048x64 .f32) (b : Fin 2) (h : Fin 16) (t s : Fin 2048) :
    (mulf (Host.dotGeneral (F := Ideal) (φ₁ := .f32) (φ₂ := .f32) dot_S2x16x2048x64_S2x16x2048x64_S2x16x2048x2048_3_3_2_2_01_01 none x y)
      (broadcastInDim S2x16x2048x2048 ![] bcast_S_S2x16x2048x2048 (constant S_ .f32 0x3E000000#32)) : FVec Ideal S2x16x2048x2048 .f32) (ix4 b h t s)
      = (∑ d : Fin 64, (x (ix4 b h t d) * y (ix4 b h s d) : EReal)) * Ideal.ofBits .f32 0x3E000000#32 := by
  pointwise

theorem s0_scores (b : Fin 2) (h : Fin 16) (t s : Fin 2048) :
    (after hostOps0 V (Proc.devRef .tc main_v14) : FVec Ideal S2x16x2048x2048 .f32) (ix4 b h t s)
      = (∑ d : Fin 64, (inp V).q b h t d * (inp V).k b h s d) * Ideal.ofBits .f32 0x3E000000#32 := by
  have e : (after hostOps0 V (Proc.devRef .tc main_v14) : FVec Ideal S2x16x2048x2048 .f32)
      = mulf (Host.dotGeneral (F := Ideal) (φ₁ := .f32) (φ₂ := .f32) dot_S2x16x2048x64_S2x16x2048x64_S2x16x2048x2048_3_3_2_2_01_01 none
          (after hostOps0 V (Proc.devRef .tc main_v7) : FVec Ideal S2x16x2048x64 .f32) (after hostOps0 V (Proc.devRef .tc main_v9) : FVec Ideal S2x16x2048x64 .f32))
        (broadcastInDim S2x16x2048x2048 ![] bcast_S_S2x16x2048x2048 (constant S_ .f32 0x3E000000#32)) := by
    after_reads_simp
  refine (congrFun e _).trans ((dot_at _ _ b h t s).trans ?_)
  congr 1
  exact Finset.sum_congr rfl fun d _ => congrArg₂ (· * ·) (s0_q V b h t d) (s0_k V b h s d)

theorem s0_one (t s : Fin 2048) : (after hostOps0 V (Proc.devRef .tc main_v15) : IVec S2048x2048 1) (ix2 t s) = (1#1 : BitVec 1) := by
  after_reads_simp
  pointwise

theorem s1_mask (t s : Fin 2048) :
    (after hostOps0_1 V (Proc.devRef .tc main_v16) : IVec S2048x2048 1) (ix2 t s)
      = Scalar.select (IntOp.cmpi CmpIPredicate.sge (IntOp.addi (BitVec.ofNat 32 t.val) 0#32) (BitVec.ofNat 32 s.val)) (0#1)
          ((V (Proc.devRef .tc main_v15) : IVec S2048x2048 1) (ix2 t s)) := by
  after_reads_simp
  simp only [TRef.toBuf, TRef.ofBuf, cast_eq]
  pointwise

theorem s2_cst : (after hostOps0_2 V (Proc.devRef .tc main_cst_1) : FVec Ideal S_ .f32) ix0 = Ideal.ofBits .f32 0xFF800000#32 := by
  after_reads_simp
  pointwise

theorem s3_where (b : Fin 2) (h : Fin 16) (t s : Fin 2048) :
    (after hostOps0_3 V (Proc.devRef .tc main_v17) : FVec Ideal S2x16x2048x2048 .f32) (ix4 b h t s)
      = Scalar.select ((V (Proc.devRef .tc main_v16) : IVec S2048x2048 1) (ix2 t s)) (g_cst_1 V ix0)
          (g_v14 V (ix4 b h t s)) := by
  after_reads_simp
  simp only [TRef.toBuf, TRef.ofBuf, cast_eq]
  pointwise
  try rfl

theorem s5_norm (b : Fin 2) (t : Fin 2048) (h : Fin 16) :
    (after hostOps0_5 V (Proc.devRef .tc main_v112) : FVec Ideal S2x2048x16x1 .f32) (ix4 b t h 0)
      = Ideal.sqrt (∑ c : Fin 6, g_v111 V (ix4 b t h c) * g_v111 V (ix4 b t h c)) := by
  after_reads_simp
  simp only [TRef.toBuf, TRef.ofBuf, cast_eq]
  pointwise

theorem s7_norm (b : Fin 2) (t : Fin 2048) (h : Fin 16) :
    (after hostOps0_7 V (Proc.devRef .tc main_v194) : FVec Ideal S2x2048x16x1 .f32) (ix4 b t h 0)
      = Ideal.sqrt (∑ c : Fin 6, g_v193 V (ix4 b t h c) * g_v193 V (ix4 b t h c)) := by
  after_reads_simp
  simp only [TRef.toBuf, TRef.ofBuf, cast_eq]
  pointwise

theorem s6_write (b : Fin 2) (t : Fin 2048) (h : Fin 16) (c : Fin 6) :
    (after hostOps0_6 V (Proc.devRef .tc main_v116) : FVec Ideal S2x2048x16x6 .f32) (ix4 b t h c)
      = Ideal.div (g_v111 V (ix4 b t h c))
          (max (g_v112 V (ix4 b t h 0)) (Ideal.ofBits .f32 0x2B8CBCCC#32)) := by
  after_reads_simp
  pointwise

theorem s8_read (b : Fin 2) (t : Fin 2048) (h : Fin 16) (c : Fin 6) :
    (after hostOps0_8 V (Proc.devRef .tc main_v204_0) : FVec Ideal S2048x2x16x6 .f32) (ix4 t b h c)
      = Ideal.div (g_v193 V (ix4 b t h c))
          (max (g_v194 V (ix4 b t h 0)) (Ideal.ofBits .f32 0x2B8CBCCC#32)) := by
  after_reads_simp
  simp only [id_eq]
  pointwise

theorem s8_write (b : Fin 2) (t : Fin 2048) (h : Fin 16) (c : Fin 6) :
    (after hostOps0_8 V (Proc.devRef .tc main_v204_1) : FVec Ideal S2048x2x16x6 .f32) (ix4 t b h c)
      = ∑ e : Fin 6, g_v116 V (ix4 b t h e) * g_cst V (ix2 e c) := by
  after_reads_simp
  simp only [id_eq]
  pointwise

theorem s8_A : after hostOps0_8 V (Proc.devRef .tc main_v204_2) = V (Proc.devRef .tc main_arg14) := by
  after_reads_simp
  try rfl

theorem s8_M (b : Fin 2) (h : Fin 16) (p q : Fin 6) :
    (after hostOps0_8 V (Proc.devRef .tc main_v204_4) : FVec Ideal S2x16x6x6 .f32) (ix4 b h p q) = (0 : EReal) := by
  after_reads_simp
  simp only [id_eq]
  pointwise
  try rfl

theorem s0_cst : (after hostOps0 V (Proc.devRef .tc main_cst) : FVec Ideal S6x6 .f32) = fun i => Ideal.ofBits .f32 (lit0 (S6x6.rowMajor i)) := by
  after_reads_simp
  try rfl

/-- The last stretch. -/
theorem s9_out (b : Fin 2) (t : Fin 2048) (n : Fin 1024) :
    (after hostOps0_9 V (Proc.devRef .tc main_v240) : FVec Ideal S2x2048x1024 .f32) (ix3 b t n)
      = (∑ k : Fin 1024, (g_v31 V (ix3 b t k)
          + Ideal.div (∑ h : Fin 16, Ideal.div 1 (1 + Ideal.exp (-(g_v204_5 V (ix3 t b h) * (inp V).ms h)))
              * Ideal.div 1 (1 + Ideal.exp (-(aff (inp V).X (inp V).Wg (inp V).bg b t h)))) (Ideal.ofBits .f32 0x41800000#32)
            * aff (inp V).X (inp V).Wmv (inp V).bmv b t k) * (inp V).Wo k n) + (inp V).bo n := by
  after_reads_simp
  pointwise [inp, aff]

end Cert.ReferenceIdeal.Value
end
-- ==== Proof.RefLines.lean ====
/- The reference before its loop: the lines' coordinates before their division by the norm. -/
module

public import proofs.«01_k».proof.Proof.Gen.ReferenceIdeal.Run
public import Idealize.ShloMosaic.Lib.StableHlo.RunRead
public import Idealize.ShloMosaic.Lib.Pipeline.ValueKit
public import Idealize.ShloMosaic.Lib.Pointwise
public import proofs.«01_k».proof.Proof.RefPre

@[expose] public section

set_option maxRecDepth 16384

noncomputable section

open Idealize.ShloMosaic Idealize.ShloMosaic.TcCoe Idealize.ShloMosaic.StableHlo Idealize.SL.Sem

namespace Cert.ReferenceIdeal.Value

open Cert.ReferenceIdeal Cert.ReferenceIdeal.Gen Cert.Spec

variable (V : Valuation τ sig (Elt Ideal))

theorem val_three : (3 : Fin 4).val = 3 := rfl

theorem s4_w0 (b : Fin 2) (t : Fin 2048) (h : Fin 16) :
    (after hostOps0_4 V (Proc.devRef .tc main_v111) : FVec Ideal S2x2048x16x6 .f32) (ix4 b t h 0) = pvec ((inp V).wa b h t) ((inp V).wb b h t) 0 := by
  show _ = (inp V).wa b h t 0 * (inp V).wb b h t 1 - (inp V).wa b h t 1 * (inp V).wb b h t 0
  simp only [Inp.wa, Inp.wb, four, lin, prv, inp, Fin.val_zero, Fin.val_one, Fin.val_two, val_three, Nat.add_zero]
  after_reads_simp
  pointwise
  after_reads_simp
  pointwise
  after_reads_simp
  pointwise

theorem s6_r0 (b : Fin 2) (t : Fin 2048) (h : Fin 16) :
    (after hostOps0_6 V (Proc.devRef .tc main_v193) : FVec Ideal S2x2048x16x6 .f32) (ix4 b t h 0) = pvec ((inp V).ra b h t) ((inp V).rb b h t) 0 := by
  show _ = (inp V).ra b h t 0 * (inp V).rb b h t 1 - (inp V).ra b h t 1 * (inp V).rb b h t 0
  simp only [Inp.ra, Inp.rb, four, lin, prv, inp, Fin.val_zero, Fin.val_one, Fin.val_two, val_three, Nat.add_zero]
  after_reads_simp
  pointwise
  after_reads_simp
  pointwise

theorem s4_w1 (b : Fin 2) (t : Fin 2048) (h : Fin 16) :
    (after hostOps0_4 V (Proc.devRef .tc main_v111) : FVec Ideal S2x2048x16x6 .f32) (ix4 b t h 1) = pvec ((inp V).wa b h t) ((inp V).wb b h t) 1 := by
  show _ = (inp V).wa b h t 0 * (inp V).wb b h t 2 - (inp V).wa b h t 2 * (inp V).wb b h t 0
  simp only [Inp.wa, Inp.wb, four, lin, prv, inp, Fin.val_zero, Fin.val_one, Fin.val_two, val_three, Nat.add_zero]
  after_reads_simp
  pointwise
  after_reads_simp
  pointwise
  after_reads_simp
  pointwise

theorem s6_r1 (b : Fin 2) (t : Fin 2048) (h : Fin 16) :
    (after hostOps0_6 V (Proc.devRef .tc main_v193) : FVec Ideal S2x2048x16x6 .f32) (ix4 b t h 1) = pvec ((inp V).ra b h t) ((inp V).rb b h t) 1 := by
  show _ = (inp V).ra b h t 0 * (inp V).rb b h t 2 - (inp V).ra b h t 2 * (inp V).rb b h t 0
  simp only [Inp.ra, Inp.rb, four, lin, prv, inp, Fin.val_zero, Fin.val_one, Fin.val_two, val_three, Nat.add_zero]
  after_reads_simp
  pointwise
  after_reads_simp
  pointwise

theorem s4_w2 (b : Fin 2) (t : Fin 2048) (h : Fin 16) :
    (after hostOps0_4 V (Proc.devRef .tc main_v111) : FVec Ideal S2x2048x16x6 .f32) (ix4 b t h 2) = pvec ((inp V).wa b h t) ((inp V).wb b h t) 2 := by
  show _ = (inp V).wa b h t 0 * (inp V).wb b h t 3 - (inp V).wa b h t 3 * (inp V).wb b h t 0
  simp only [Inp.wa, Inp.wb, four, lin, prv, inp, Fin.val_zero, Fin.val_one, Fin.val_two, val_three, Nat.add_zero]
  after_reads_simp
  pointwise
  after_reads_simp
  pointwise
  after_reads_simp
  pointwise

theorem s6_r2 (b : Fin 2) (t : Fin 2048) (h : Fin 16) :
    (after hostOps0_6 V (Proc.devRef .tc main_v193) : FVec Ideal S2x2048x16x6 .f32) (ix4 b t h 2) = pvec ((inp V).ra b h t) ((inp V).rb b h t) 2 := by
  show _ = (inp V).ra b h t 0 * (inp V).rb b h t 3 - (inp V).ra b h t 3 * (inp V).rb b h t 0
  simp only [Inp.ra, Inp.rb, four, lin, prv, inp, Fin.val_zero, Fin.val_one, Fin.val_two, val_three, Nat.add_zero]
  after_reads_simp
  pointwise
  after_reads_simp
  pointwise

theorem s4_w3 (b : Fin 2) (t : Fin 2048) (h : Fin 16) :
    (after hostOps0_4 V (Proc.devRef .tc main_v111) : FVec Ideal S2x2048x16x6 .f32) (ix4 b t h 3) = pvec ((inp V).wa b h t) ((inp V).wb b h t) 3 := by
  show _ = (inp V).wa b h t 1 * (inp V).wb b h t 2 - (inp V).wa b h t 2 * (inp V).wb b h t 1
  simp only [Inp.wa, Inp.wb, four, lin, prv, inp, Fin.val_zero, Fin.val_one, Fin.val_two, val_three, Nat.add_zero]
  after_reads_simp
  pointwise
  after_reads_simp
  pointwise
  after_reads_simp
  pointwise

theorem s6_r3 (b : Fin 2) (t : Fin 2048) (h : Fin 16) :
    (after hostOps0_6 V (Proc.devRef .tc main_v193) : FVec Ideal S2x2048x16x6 .f32) (ix4 b t h 3) = pvec ((inp V).ra b h t) ((inp V).rb b h t) 3 := by
  show _ = (inp V).ra b h t 1 * (inp V).rb b h t 2 - (inp V).ra b h t 2 * (inp V).rb b h t 1
  simp only [Inp.ra, Inp.rb, four, lin, prv, inp, Fin.val_zero, Fin.val_one, Fin.val_two, val_three, Nat.add_zero]
  after_reads_simp
  pointwise
  after_reads_simp
  pointwise

theorem s4_w4 (b : Fin 2) (t : Fin 2048) (h : Fin 16) :
    (after hostOps0_4 V (Proc.devRef .tc main_v111) : FVec Ideal S2x2048x16x6 .f32) (ix4 b t h 4) = pvec ((inp V).wa b h t) ((inp V).wb b h t) 4 := by
  show _ = (inp V).wa b h t 1 * (inp V).wb b h t 3 - (inp V).wa b h t 3 * (inp V).wb b h t 1
  simp only [Inp.wa, Inp.wb, four, lin, prv, inp, Fin.val_zero, Fin.val_one, Fin.val_two, val_three, Nat.add_zero]
  after_reads_simp
  pointwise
  after_reads_simp
  pointwise
  after_reads_simp
  pointwise

theorem s6_r4 (b : Fin 2) (t : Fin 2048) (h : Fin 16) :
    (after hostOps0_6 V (Proc.devRef .tc main_v193) : FVec Ideal S2x2048x16x6 .f32) (ix4 b t h 4) = pvec ((inp V).ra b h t) ((inp V).rb b h t) 4 := by
  show _ = (inp V).ra b h t 1 * (inp V).rb b h t 3 - (inp V).ra b h t 3 * (inp V).rb b h t 1
  simp only [Inp.ra, Inp.rb, four, lin, prv, inp, Fin.val_zero, Fin.val_one, Fin.val_two, val_three, Nat.add_zero]
  after_reads_simp
  pointwise
  after_reads_simp
  pointwise

theorem s4_w5 (b : Fin 2) (t : Fin 2048) (h : Fin 16) :
    (after hostOps0_4 V (Proc.devRef .tc main_v111) : FVec Ideal S2x2048x16x6 .f32) (ix4 b t h 5) = pvec ((inp V).wa b h t) ((inp V).wb b h t) 5 := by
  show _ = (inp V).wa b h t 2 * (inp V).wb b h t 3 - (inp V).wa b h t 3 * (inp V).wb b h t 2
  simp only [Inp.wa, Inp.wb, four, lin, prv, inp, Fin.val_zero, Fin.val_one, Fin.val_two, val_three, Nat.add_zero]
  after_reads_simp
  pointwise
  after_reads_simp
  pointwise
  after_reads_simp
  pointwise

theorem s6_r5 (b : Fin 2) (t : Fin 2048) (h : Fin 16) :
    (after hostOps0_6 V (Proc.devRef .tc main_v193) : FVec Ideal S2x2048x16x6 .f32) (ix4 b t h 5) = pvec ((inp V).ra b h t) ((inp V).rb b h t) 5 := by
  show _ = (inp V).ra b h t 2 * (inp V).rb b h t 3 - (inp V).ra b h t 3 * (inp V).rb b h t 2
  simp only [Inp.ra, Inp.rb, four, lin, prv, inp, Fin.val_zero, Fin.val_one, Fin.val_two, val_three, Nat.add_zero]
  after_reads_simp
  pointwise
  after_reads_simp
  pointwise

end Cert.ReferenceIdeal.Value
end
-- ==== Proof.RefLoop.lean ====
/- The reference loop: what one trip does at an index, and the state after every trip. -/
module

public import proofs.«01_k».proof.Proof.Gen.ReferenceIdeal.Run
public import Idealize.ShloMosaic.Lib.StableHlo.RunRead
public import Idealize.ShloMosaic.Lib.Pipeline.ValueKit
public import Idealize.ShloMosaic.Lib.Pointwise
public import Idealize.ShloMosaic.Lib.DynamicIndex
public import Idealize.ShloMosaic.Lib.Pipeline.Value
public import proofs.«01_k».proof.Proof.Common

@[expose] public section

set_option maxRecDepth 16384

noncomputable section

open Idealize.ShloMosaic Idealize.ShloMosaic.TcCoe Idealize.ShloMosaic.StableHlo Idealize.SL.Sem

namespace Cert.ReferenceIdeal.Value

open Cert.ReferenceIdeal Cert.ReferenceIdeal.Gen Cert.Spec

/-- The slice of one step. -/
theorem slice_at (x : FVec Ideal S2048x2x16x6 .f32) (st : Fin 4 → Int) (k : Fin 2048) (h0 : st 0 = (k.val : Int)) (h1 : st 1 = 0) (h2 : st 2 = 0)
    (h3 : st 3 = 0) (b : Fin 2) (h : Fin 16) (c : Fin 6) :
    shapeCast S2x16x6 (Host.dynamicSlice S1x2x16x6 x st sliceFits_S2048x2x16x6_S1x2x16x6) shapeCasts_S1x2x16x6_S2x16x6 (ix3 b h c)
      = x (ix4 k b h c) := by
  have hk : S2048x2x16x6.Slices ![k.val, 0, 0, 0] S1x2x16x6 := ⟨rfl, fun a => by
    have := k.isLt
    match a with
    | ⟨0, _⟩ => show k.val + 1 ≤ 2048; omega
    | ⟨1, _⟩ => exact le_refl _
    | ⟨2, _⟩ => exact le_refl _
    | ⟨3, _⟩ => exact le_refl _⟩
  rw [Host.dynamicSlice_eq_extractStridedSlice S1x2x16x6 x st ![k.val, 0, 0, 0] sliceFits_S2048x2x16x6_S1x2x16x6 hk (fun a => by
    match a with
    | ⟨0, _⟩ => exact h0
    | ⟨1, _⟩ => exact h1
    | ⟨2, _⟩ => exact h2
    | ⟨3, _⟩ => exact h3)]
  pointwise

theorem update_at (x : FVec Ideal S2048x2x16 .f32) (u : FVec Ideal S1x2x16 .f32) (st : Fin 3 → Int) (k : Fin 2048) (h0 : st 0 = (k.val : Int)) (h1 : st 1 = 0)
    (h2 : st 2 = 0) (t : Fin 2048) (b : Fin 2) (h : Fin 16) :
    Host.dynamicUpdateSlice x u st updateFits_S2048x2x16_S1x2x16 (ix3 t b h)
      = if t = k then u (ix3 0 b h) else x (ix3 t b h) := by
  have hk : S2048x2x16.Slices ![k.val, 0, 0] S1x2x16 := ⟨rfl, fun a => by
    have := k.isLt
    match a with
    | ⟨0, _⟩ => show k.val + 1 ≤ 2048; omega
    | ⟨1, _⟩ => exact le_refl _
    | ⟨2, _⟩ => exact le_refl _⟩
  rw [Host.dynamicUpdateSlice_eq_updateSlice x u st updateFits_S2048x2x16_S1x2x16 ![k.val, 0, 0] (fun a => by
    have := k.isLt
    match a with
    | ⟨0, _⟩ =>
      show (min (max (st 0) 0) ((2048 - 1 : ℕ) : ℤ)).toNat = k.val
      rw [h0]; omega
    | ⟨1, _⟩ =>
      show (min (max (st 1) 0) ((2 - 2 : ℕ) : ℤ)).toNat = 0
      rw [h1]; omega
    | ⟨2, _⟩ =>
      show (min (max (st 2) 0) ((16 - 16 : ℕ) : ℤ)).toNat = 0
      rw [h2]; omega) hk]
  unfold updateSlice
  by_cases e : t = k
  · subst e
    rw [if_pos rfl, dif_pos (fun a => by
      match a with
      | ⟨0, _⟩ => exact ⟨le_refl _, Nat.lt_succ_self _⟩
      | ⟨1, _⟩ => exact ⟨Nat.zero_le _, by show b.val < 0 + 2; have := b.isLt; omega⟩
      | ⟨2, _⟩ => exact ⟨Nat.zero_le _, by show h.val < 0 + 16; have := h.isLt; omega⟩)]
    refine congrArg u (funext fun a => ?_)
    match a with
    | ⟨0, _⟩ => exact Fin.ext (Nat.sub_self _)
    | ⟨1, _⟩ => rfl
    | ⟨2, _⟩ => rfl
  · rw [if_neg e, dif_neg (fun H => e (Fin.ext (by
      have h := H ⟨0, by decide⟩
      have h1 : k.val ≤ t.val := h.1
      have h2 : t.val < k.val + 1 := h.2
      omega)))]

theorem decay_at (M : FVec Ideal S2x16x6x6 .f32) (A : FVec Ideal S16x6x6 .f32) (w : FVec Ideal S2x16x6 .f32) (b : Fin 2) (h : Fin 16) (p q : Fin 6) :
    (addf (transpose S2x16x6x6 [1, 0, 2, 3] (Host.dotGeneral (F := Ideal) (φ₁ := .f32) (φ₂ := .f32) dot_S2x16x6x6_S16x6x6_S16x2x6x6_2_2_03_1_1_0 none (transpose S2x16x6x6 [1, 0, 2, 3] (Host.dotGeneral dot_S2x16x6x6_S16x6x6_S16x2x6x6_2_2_03_1_1_0 none M A) transposes_S16x2x6x6_S2x16x6x6_1_0_2_3) A) transposes_S16x2x6x6_S2x16x6x6_1_0_2_3) (mulf (broadcastInDim S2x16x6x6 ![0, 1, 2, 3] bcast_S2x16x6x1_S2x16x6x6_0_1_2_3 (broadcastInDim S2x16x6x1 ![0, 1, 2] bcast_S2x16x6_S2x16x6x1_0_1_2 w)) (broadcastInDim S2x16x6x6 ![0, 1, 2, 3] bcast_S2x16x1x6_S2x16x6x6_0_1_2_3 (broadcastInDim S2x16x1x6 ![0, 1, 3] bcast_S2x16x6_S2x16x1x6_0_1_3 w))) : FVec Ideal S2x16x6x6 .f32) (ix4 b h p q)
      = (∑ f : Fin 6, (∑ e : Fin 6, (M (ix4 b h e f) * A (ix3 h p e) : EReal)) * (A (ix3 h q f) : EReal)) + (w (ix3 b h p) * w (ix3 b h q) : EReal) := by
  pointwise

theorem form_at (M : FVec Ideal S2x16x6x6 .f32) (r : FVec Ideal S2x16x6 .f32) (b : Fin 2) (h : Fin 16) :
    broadcastInDim S1x2x16 ![1, 2] bcast_S2x16_S1x2x16_1_2 (Host.dotGeneral (F := Ideal) (φ₁ := .f32) (φ₂ := .f32) dot_S2x16x6_S2x16x6_S2x16_2_2_n_n_01_01 none r (Host.dotGeneral (F := Ideal) (φ₁ := .f32) (φ₂ := .f32) dot_S2x16x6_S2x16x6x6_S2x16x6_2_2_n_3_01_01 none r M)) (ix3 0 b h)
      = ∑ q : Fin 6, (r (ix3 b h q) : EReal) * ∑ e : Fin 6, (r (ix3 b h e) * M (ix4 b h e q) : EReal) := by
  pointwise

theorem iv_int (k : ℕ) (hk : k < 2048) : (Scf.iv 0#32 1#32 k).toInt = (k : Int) := by
  show (0#32 + BitVec.ofNat 32 k * 1#32).toInt = (k : Int)
  rw [BitVec.mul_one, BitVec.zero_add, toInt_ofNat_of_lt (by omega)]

/-! ## One trip -/

abbrev c_0 (V : Valuation τ sig (Elt Ideal)) : FVec Ideal S2048x2x16x6 .f32 := V (Proc.devRef .tc main_v204_0)
abbrev c_1 (V : Valuation τ sig (Elt Ideal)) : FVec Ideal S2048x2x16x6 .f32 := V (Proc.devRef .tc main_v204_1)
abbrev c_2 (V : Valuation τ sig (Elt Ideal)) : FVec Ideal S16x6x6 .f32 := V (Proc.devRef .tc main_v204_2)
abbrev c_4 (V : Valuation τ sig (Elt Ideal)) : FVec Ideal S2x16x6x6 .f32 := V (Proc.devRef .tc main_v204_4)
abbrev c_5 (V : Valuation τ sig (Elt Ideal)) : FVec Ideal S2048x2x16 .f32 := V (Proc.devRef .tc main_v204_5)
abbrev row_0 (V : Valuation τ sig (Elt Ideal)) : FVec Ideal S2x16x6 .f32 := res_main_while0b_v241 V
abbrev row_1 (V : Valuation τ sig (Elt Ideal)) : FVec Ideal S2x16x6 .f32 := res_main_while0b_v242 V

variable (V : Valuation τ sig (Elt Ideal))

theorem row_0_at (k : Fin 2048) (h3 : V (Proc.devRef .tc main_v204_3) = fun _ => Scf.iv 0#32 1#32 k.val) (b : Fin 2) (h : Fin 16) (c : Fin 6) :
    row_0 V (ix3 b h c) = c_0 V (ix4 k b h c) := by
  refine slice_at (c_0 V) _ k ?_ ?_ ?_ ?_ b h c
  · show (V (Proc.devRef .tc main_v204_3) (Shape.Idx.first h_S_)).toInt = _
    rw [h3]; exact iv_int k.val k.isLt
  · rfl
  · rfl
  · rfl

theorem row_1_at (k : Fin 2048) (h3 : V (Proc.devRef .tc main_v204_3) = fun _ => Scf.iv 0#32 1#32 k.val) (b : Fin 2) (h : Fin 16) (c : Fin 6) :
    row_1 V (ix3 b h c) = c_1 V (ix4 k b h c) := by
  refine slice_at (c_1 V) _ k ?_ ?_ ?_ ?_ b h c
  · show (V (Proc.devRef .tc main_v204_3) (Shape.Idx.first h_S_)).toInt = _
    rw [h3]; exact iv_int k.val k.isLt
  · rfl
  · rfl
  · rfl

theorem trip_4 (b : Fin 2) (h : Fin 16) (p q : Fin 6) :
    c_4 (STEP V) (ix4 b h p q) = (∑ f : Fin 6, (∑ e : Fin 6, (c_4 V (ix4 b h e f) * c_2 V (ix3 h p e) : EReal)) * (c_2 V (ix3 h q f) : EReal))
      + (row_1 V (ix3 b h p) * row_1 V (ix3 b h q) : EReal) :=
  (congrFun (STEP_main_v204_4 V) _).trans (decay_at (c_4 V) (c_2 V) (row_1 V) b h p q)

theorem trip_5 (k : Fin 2048) (h3 : V (Proc.devRef .tc main_v204_3) = fun _ => Scf.iv 0#32 1#32 k.val) (t : Fin 2048) (b : Fin 2) (h : Fin 16) :
    c_5 (STEP V) (ix3 t b h) = if t = k then ∑ q : Fin 6, (row_0 V (ix3 b h q) : EReal) * ∑ e : Fin 6, (row_0 V (ix3 b h e) * c_4 V (ix4 b h e q) : EReal)
      else c_5 V (ix3 t b h) := by
  refine (congrFun (STEP_main_v204_5 V) _).trans ((update_at (c_5 V) _ _ k ?_ ?_ ?_ t b h).trans ?_)
  · show (V (Proc.devRef .tc main_v204_3) (Shape.Idx.first h_S_)).toInt = _
    rw [h3]; exact iv_int k.val k.isLt
  · rfl
  · rfl
  · rw [form_at]

/-! ## All trips -/

section
variable (m : (ℓ : Loc nD τ sig) → Buf (Elt Ideal) ℓ) (c : Dev nD)

/-- The contents at the loop's entry. -/
abbrev E0 : Valuation τ sig (Elt Ideal) := entryContents preI m c

theorem atK_0 (k : ℕ) : c_0 (atK m k c) = c_0 (E0 m c) := by
  induction k with
  | zero => rfl
  | succ k ih => exact (trip_agree (atK m k c) main_v204_0 (by decide)).trans ((STEP_main_v204_0 _).trans ih)
theorem atK_1 (k : ℕ) : c_1 (atK m k c) = c_1 (E0 m c) := by
  induction k with
  | zero => rfl
  | succ k ih => exact (trip_agree (atK m k c) main_v204_1 (by decide)).trans ((STEP_main_v204_1 _).trans ih)
theorem atK_2 (k : ℕ) : c_2 (atK m k c) = c_2 (E0 m c) := by
  induction k with
  | zero => rfl
  | succ k ih => exact (trip_agree (atK m k c) main_v204_2 (by decide)).trans ((STEP_main_v204_2 _).trans ih)
theorem atK_4 (k : ℕ) : c_4 (atK m (k + 1) c) = c_4 (STEP (atK m k c)) := trip_agree (atK m k c) main_v204_4 (by decide)
theorem atK_5 (k : ℕ) : c_5 (atK m (k + 1) c) = c_5 (STEP (atK m k c)) := trip_agree (atK m k c) main_v204_5 (by decide)

/-- A diagonal matrix on both sides multiplies by the square of its entry. -/
theorem diag_twice (a : ℝ) (M : Fin 6 → Fin 6 → ℝ) (A : Fin 6 → Fin 6 → EReal) (hA : ∀ p q, A p q = if p = q then (a : EReal) else 0) (p q : Fin 6) :
    (∑ f : Fin 6, (∑ e : Fin 6, (M e f : EReal) * A p e) * A q f) = ((a * a * M p q : ℝ) : EReal) := by
  have h1 : ∀ f, (∑ e : Fin 6, (M e f : EReal) * A p e) = ((M p f * a : ℝ) : EReal) := fun f => by
    rw [Finset.sum_eq_single p]
    · rw [hA, if_pos rfl, EReal.coe_mul]
    · intro e _ he; rw [hA, if_neg (Ne.symm he), mul_zero]
    · intro h; exact absurd (Finset.mem_univ _) h
  simp only [h1]
  rw [Finset.sum_eq_single q]
  · rw [hA, if_pos rfl, ← EReal.coe_mul]; congr 1; ring
  · intro e _ he; rw [hA, if_neg (Ne.symm he), mul_zero]
  · intro h; exact absurd (Finset.mem_univ _) h

variable (a : ℝ) (w r : Fin 2 → Fin 16 → ℕ → Fin 6 → ℝ)
  (hA : ∀ h p q, c_2 (E0 m c) (ix3 h p q) = if p = q then (a : EReal) else 0)
  (hr : ∀ t b h e, c_0 (E0 m c) (ix4 t b h e) = (r b h t.val e : EReal))
  (hw : ∀ t b h e, c_1 (E0 m c) (ix4 t b h e) = (w b h t.val e : EReal))
  (h4 : ∀ b h p q, c_4 (E0 m c) (ix4 b h p q) = (0 : EReal))
include hA hr hw h4

theorem state_at (k : ℕ) (hk : k ≤ 2048) (b : Fin 2) (h : Fin 16) (p q : Fin 6) :
    c_4 (atK m k c) (ix4 b h p q) = ((mr (a * a) (w b h) k p q : ℝ) : EReal) := by
  induction k generalizing p q with
  | zero => rw [mr_zero, EReal.coe_zero]; exact h4 b h p q
  | succ k ih =>
    have hk' : k < 2048 := hk
    rw [atK_4, trip_4, row_1_at _ ⟨k, hk'⟩ (atK_ctr m c k), row_1_at _ ⟨k, hk'⟩ (atK_ctr m c k), atK_1, atK_2, hw, hw, mr_succ]
    simp only [ih hk'.le]
    rw [diag_twice a (mr (a * a) (w b h) k) (fun p q => c_2 (E0 m c) (ix3 h p q)) (hA h), EReal.coe_add, EReal.coe_mul (w b h k p)]

theorem scores_at (k : ℕ) (hk : k ≤ 2048) (t : Fin 2048) (ht : t.val < k) (b : Fin 2) (h : Fin 16) :
    c_5 (atK m k c) (ix3 t b h) = ((qr (a * a) (w b h) t.val (r b h t.val) : ℝ) : EReal) := by
  induction k with
  | zero => exact absurd ht (Nat.not_lt_zero _)
  | succ k ih =>
    have hk' : k < 2048 := hk
    rw [atK_5, trip_5 _ ⟨k, hk'⟩ (atK_ctr m c k)]
    split
    · rename_i e
      subst e
      have hrk : ∀ q, row_0 (atK m k c) (ix3 b h q) = (r b h k q : EReal) := fun q =>
        (row_0_at _ ⟨k, hk'⟩ (atK_ctr m c k) b h q).trans ((congrFun (atK_0 m c k) _).trans (hr ⟨k, hk'⟩ b h q))
      simp only [hrk, state_at m c a w r hA hr hw h4 k hk'.le]
      rw [← quad_mr, ← coe_sum]
      refine Finset.sum_congr rfl fun q _ => ?_
      rw [EReal.coe_mul, mul_comm, ← coe_sum]
      congr 1
      exact Finset.sum_congr rfl fun e _ => by rw [EReal.coe_mul, mul_comm]
    · rename_i e
      exact ih hk'.le (by
        have : t.val ≠ k := fun h => e (Fin.ext h)
        omega)

end

end Cert.ReferenceIdeal.Value
end
-- ==== Proof.RefSeq.lean ====
/- The reference attention, read at an index. -/
module

public import proofs.«01_k».proof.Proof.Gen.ReferenceIdeal.Run
public import Idealize.ShloMosaic.Lib.StableHlo.RunRead
public import Idealize.ShloMosaic.Lib.Pipeline.ValueKit
public import Idealize.ShloMosaic.Lib.Pointwise
public import proofs.«01_k».proof.Proof.RefPre

@[expose] public section

set_option maxRecDepth 16384

noncomputable section

open Idealize.ShloMosaic Idealize.ShloMosaic.TcCoe Idealize.ShloMosaic.StableHlo Idealize.SL.Sem

namespace Cert.ReferenceIdeal.Value

open Cert.ReferenceIdeal Cert.ReferenceIdeal.Gen Cert.Spec

variable (V : Valuation τ sig (Elt Ideal))

/-- Three of the stretch's arrays. -/
abbrev a20 (V : Valuation τ sig (Elt Ideal)) : FVec Ideal S2x16x2048 .f32 := after hostOps0_4 V (Proc.devRef .tc main_v20)
abbrev a24 (V : Valuation τ sig (Elt Ideal)) : FVec Ideal S2x16x2048x2048 .f32 := after hostOps0_4 V (Proc.devRef .tc main_v24)
abbrev a31 (V : Valuation τ sig (Elt Ideal)) : FVec Ideal S2x2048x1024 .f32 := after hostOps0_4 V (Proc.devRef .tc main_v31)
abbrev a17 (V : Valuation τ sig (Elt Ideal)) : FVec Ideal S2x16x2048x2048 .f32 := V (Proc.devRef .tc main_v17)
abbrev a11 (V : Valuation τ sig (Elt Ideal)) : FVec Ideal S2x16x2048x64 .f32 := V (Proc.devRef .tc main_v11)

/-- A row's maximum as the reference takes it. -/
def rowMax (S : Fin 2048 → EReal) : EReal :=
  max (Ideal.ofBits .f32 0xFF800000#32) (Finset.fold max (Ideal.ofBits .f32 0xFF800000#32) (fun s => S s) Finset.univ)

theorem host_max (x : FVec Ideal S2x16x2048x2048 .f32) (c : FVec Ideal S_ .f32) (b : Fin 2) (h : Fin 16) (t : Fin 2048) :
    Host.reduce FloatOps.maximumf x c reducesTo_S2x16x2048x2048_S2x16x2048_d3 h_S_ (ix3 b h t)
      = Finset.fold max (c (Shape.Idx.first (by decide))) (fun s : Fin 2048 => x (ix4 b h t s)) Finset.univ := by
  simp only [pointwise]

theorem max_at (y : FVec Ideal S2x16x2048 .f32) (b : Fin 2) (h : Fin 16) (t : Fin 2048) :
    maximumf (broadcastInDim S2x16x2048 ![] bcast_S_S2x16x2048 (constant S_ .f32 0xFF800000#32)) y (ix3 b h t)
     = max (Ideal.ofBits .f32 0xFF800000#32) (y (ix3 b h t) : EReal) := by
  pointwise

theorem exp_at (x : FVec Ideal S2x16x2048x2048 .f32) (m : FVec Ideal S2x16x2048 .f32) (b : Fin 2) (h : Fin 16) (t s : Fin 2048) :
    Host.exp (subf x (broadcastInDim S2x16x2048x2048 ![0, 1, 2, 3] bcast_S2x16x2048x1_S2x16x2048x2048_0_1_2_3
                    (broadcastInDim S2x16x2048x1 ![0, 1, 2] bcast_S2x16x2048_S2x16x2048x1_0_1_2 m))) (ix4 b h t s)
     = Ideal.exp (x (ix4 b h t s) - m (ix3 b h t) : EReal) := by
  pointwise

theorem div_at (y : FVec Ideal S2x16x2048x2048 .f32) (b : Fin 2) (h : Fin 16) (t s : Fin 2048) :
    Host.divf y (broadcastInDim S2x16x2048x2048 ![0, 1, 2, 3] bcast_S2x16x2048x1_S2x16x2048x2048_0_1_2_3
                (broadcastInDim S2x16x2048x1 ![0, 1, 2] bcast_S2x16x2048_S2x16x2048x1_0_1_2
                  (Host.reduceAdd y (constant S_ FTy.f32 0#32) reducesTo_S2x16x2048x2048_S2x16x2048_d3 h_S_))) (ix4 b h t s)
     = Ideal.div (y (ix4 b h t s)) (∑ s' : Fin 2048, (y (ix4 b h t s') : EReal)) := by
  pointwise

theorem out_at (v : FVec Ideal S2x16x2048x64 .f32) (p : FVec Ideal S2x16x2048x2048 .f32) (b : Fin 2) (t : Fin 2048) (n : Fin 1024) :
    shapeCast S2x2048x1024
        (transpose S2x2048x16x64 [0, 3, 1, 2]
          (Host.dotGeneral (F := Ideal) (φ₁ := .f32) (φ₂ := .f32) dot_S2x16x2048x64_S2x16x2048x2048_S2x16x64x2048_2_3_3_2_01_01 none v p)
          transposes_S2x16x64x2048_S2x2048x16x64_0_3_1_2)
        shapeCasts_S2x2048x16x64_S2x2048x1024 (ix3 b t n)
    = ∑ s : Fin 2048, (v (ix4 b ⟨n.val / 64, by have := n.isLt; omega⟩ s ⟨n.val % 64, Nat.mod_lt _ (by decide)⟩) * p (ix4 b ⟨n.val / 64, by have := n.isLt; omega⟩ t s) : EReal) := by
  pointwise

theorem s4_max (b : Fin 2) (h : Fin 16) (t : Fin 2048) :
    (a20 V) (ix3 b h t) = rowMax (fun s => g_v17 V (ix4 b h t s)) := by
  have e : (a20 V)
      = maximumf (broadcastInDim S2x16x2048 ![] bcast_S_S2x16x2048 (constant S_ .f32 0xFF800000#32))
          (Host.reduce FloatOps.maximumf (a17 V) (constant S_ .f32 0xFF800000#32)
            reducesTo_S2x16x2048x2048_S2x16x2048_d3 h_S_) := by
    after_reads_simp
    try rfl
  exact (congrFun e _).trans ((max_at _ b h t).trans (congrArg (max _) (host_max _ _ b h t)))

theorem s4_exp (b : Fin 2) (h : Fin 16) (t s : Fin 2048) :
    (a24 V) (ix4 b h t s)
      = Ideal.exp (g_v17 V (ix4 b h t s) - rowMax (fun s => g_v17 V (ix4 b h t s))) := by
  have e : (a24 V)
      = Host.exp (subf (a17 V)
          (broadcastInDim S2x16x2048x2048 ![0, 1, 2, 3] bcast_S2x16x2048x1_S2x16x2048x2048_0_1_2_3
            (broadcastInDim S2x16x2048x1 ![0, 1, 2] bcast_S2x16x2048_S2x16x2048x1_0_1_2
              (a20 V)))) := by
    after_reads_simp
    try rfl
  exact (congrFun e _).trans ((exp_at _ _ b h t s).trans (congrArg (fun z : EReal => Ideal.exp (g_v17 V (ix4 b h t s) - z)) (s4_max V b h t)))

theorem s4_seq (b : Fin 2) (t : Fin 2048) (n : Fin 1024) :
    (a31 V) (ix3 b t n)
      = ∑ s : Fin 2048, g_v11 V (ix4 b ⟨n.val / 64, by have := n.isLt; omega⟩ s ⟨n.val % 64, Nat.mod_lt _ (by decide)⟩)
        * Ideal.div (Ideal.exp (g_v17 V (ix4 b ⟨n.val / 64, by have := n.isLt; omega⟩ t s) - rowMax (fun s => g_v17 V (ix4 b ⟨n.val / 64, by have := n.isLt; omega⟩ t s))))
          (∑ s' : Fin 2048, Ideal.exp (g_v17 V (ix4 b ⟨n.val / 64, by have := n.isLt; omega⟩ t s') - rowMax (fun s => g_v17 V (ix4 b ⟨n.val / 64, by have := n.isLt; omega⟩ t s)))) := by
  have e : (a31 V)
      = shapeCast S2x2048x1024
        (transpose S2x2048x16x64 [0, 3, 1, 2]
          (Host.dotGeneral (F := Ideal) (φ₁ := .f32) (φ₂ := .f32) dot_S2x16x2048x64_S2x16x2048x2048_S2x16x64x2048_2_3_3_2_01_01 none
            (a11 V)
            (Host.divf (a24 V)
              (broadcastInDim S2x16x2048x2048 ![0, 1, 2, 3] bcast_S2x16x2048x1_S2x16x2048x2048_0_1_2_3
                (broadcastInDim S2x16x2048x1 ![0, 1, 2] bcast_S2x16x2048_S2x16x2048x1_0_1_2
                  (Host.reduceAdd (a24 V) (constant S_ FTy.f32 0#32)
                    reducesTo_S2x16x2048x2048_S2x16x2048_d3 h_S_)))))
          transposes_S2x16x64x2048_S2x2048x16x64_0_3_1_2)
        shapeCasts_S2x2048x16x64_S2x2048x1024 := by
    after_reads_simp
    try rfl
  refine (congrFun e _).trans ((out_at _ _ b t n).trans ?_)
  refine Finset.sum_congr rfl fun s _ => congrArg₂ (· * ·) rfl ((div_at _ b _ t s).trans ?_)
  exact congrArg₂ Ideal.div (s4_exp V b _ t s) (Finset.sum_congr rfl fun s' _ => s4_exp V b _ t s')

end Cert.ReferenceIdeal.Value
end
-- ==== Proof.RefTop.lean ====
/- The reference, put together: its result at an index as a function of the arguments. -/
module

public import proofs.«01_k».proof.Proof.Gen.ReferenceIdeal.Run
public import proofs.«01_k».proof.Proof.RefRun
public import proofs.«01_k».proof.Proof.RefLines
public import proofs.«01_k».proof.Proof.RefLoop
public import Idealize.ShloMosaic.Lib.Pipeline.ValueKit
public import Idealize.ShloMosaic.Lib.Pointwise
public import proofs.«01_k».proof.Proof.RefSeq
public import proofs.«01_k».proof.Proof.GoodFacts

@[expose] public section

set_option maxRecDepth 16384

noncomputable section

open Idealize.ShloMosaic Idealize.ShloMosaic.TcCoe Idealize.ShloMosaic.StableHlo Idealize.SL.Sem

namespace Cert.ReferenceIdeal.Value

open Cert.ReferenceIdeal Cert.ReferenceIdeal.Gen Cert.Spec

/-! ## The stretches before the loop, one after the other -/

abbrev P1 (V : Valuation τ sig (Elt Ideal)) : Valuation τ sig (Elt Ideal) := after hostOps0 V
abbrev P2 (V : Valuation τ sig (Elt Ideal)) : Valuation τ sig (Elt Ideal) := after hostOps0_1 (P1 V)
abbrev P3 (V : Valuation τ sig (Elt Ideal)) : Valuation τ sig (Elt Ideal) := after hostOps0_2 (P2 V)
abbrev P4 (V : Valuation τ sig (Elt Ideal)) : Valuation τ sig (Elt Ideal) := after hostOps0_3 (P3 V)
abbrev P5 (V : Valuation τ sig (Elt Ideal)) : Valuation τ sig (Elt Ideal) := after hostOps0_4 (P4 V)
abbrev P6 (V : Valuation τ sig (Elt Ideal)) : Valuation τ sig (Elt Ideal) := after hostOps0_5 (P5 V)
abbrev P7 (V : Valuation τ sig (Elt Ideal)) : Valuation τ sig (Elt Ideal) := after hostOps0_6 (P6 V)
abbrev P8 (V : Valuation τ sig (Elt Ideal)) : Valuation τ sig (Elt Ideal) := after hostOps0_7 (P7 V)
abbrev P9 (V : Valuation τ sig (Elt Ideal)) : Valuation τ sig (Elt Ideal) := after hostOps0_8 (P8 V)

variable (V : Valuation τ sig (Elt Ideal))

theorem k1 (r : Ref sig .tc) (h : r ∉ hostOps0_W) : P1 V (Proc.devRef .tc r) = V (Proc.devRef .tc r) := after_of_writes_sub hostOps0 _ hostOps0_writes h
theorem k2 (r : Ref sig .tc) (h : r ∉ hostOps0_1_W) : P2 V (Proc.devRef .tc r) = P1 V (Proc.devRef .tc r) := after_of_writes_sub hostOps0_1 _ hostOps0_1_writes h
theorem k3 (r : Ref sig .tc) (h : r ∉ hostOps0_2_W) : P3 V (Proc.devRef .tc r) = P2 V (Proc.devRef .tc r) := after_of_writes_sub hostOps0_2 _ hostOps0_2_writes h
theorem k4 (r : Ref sig .tc) (h : r ∉ hostOps0_3_W) : P4 V (Proc.devRef .tc r) = P3 V (Proc.devRef .tc r) := after_of_writes_sub hostOps0_3 _ hostOps0_3_writes h
theorem k5 (r : Ref sig .tc) (h : r ∉ hostOps0_4_W) : P5 V (Proc.devRef .tc r) = P4 V (Proc.devRef .tc r) := after_of_writes_sub hostOps0_4 _ hostOps0_4_writes h
theorem k6 (r : Ref sig .tc) (h : r ∉ hostOps0_5_W) : P6 V (Proc.devRef .tc r) = P5 V (Proc.devRef .tc r) := after_of_writes_sub hostOps0_5 _ hostOps0_5_writes h
theorem k7 (r : Ref sig .tc) (h : r ∉ hostOps0_6_W) : P7 V (Proc.devRef .tc r) = P6 V (Proc.devRef .tc r) := after_of_writes_sub hostOps0_6 _ hostOps0_6_writes h
theorem k8 (r : Ref sig .tc) (h : r ∉ hostOps0_7_W) : P8 V (Proc.devRef .tc r) = P7 V (Proc.devRef .tc r) := after_of_writes_sub hostOps0_7 _ hostOps0_7_writes h
theorem k9 (r : Ref sig .tc) (h : r ∉ hostOps0_8_W) : P9 V (Proc.devRef .tc r) = P8 V (Proc.devRef .tc r) := after_of_writes_sub hostOps0_8 _ hostOps0_8_writes h

/-- The fifteen arguments. -/
abbrev argL : List (Ref sig .tc) := [main_arg0, main_arg1, main_arg2, main_arg3, main_arg4, main_arg5, main_arg6, main_arg7, main_arg8, main_arg9,
  main_arg10, main_arg11, main_arg12, main_arg13, main_arg14]

theorem inp_eq (V' : Valuation τ sig (Elt Ideal)) (h : ∀ r ∈ argL, V' (Proc.devRef .tc r) = V (Proc.devRef .tc r)) : inp V' = inp V := by
  unfold inp
  rw [h main_arg0 (by decide), h main_arg1 (by decide), h main_arg2 (by decide), h main_arg3 (by decide), h main_arg4 (by decide),
    h main_arg5 (by decide), h main_arg6 (by decide), h main_arg7 (by decide), h main_arg8 (by decide), h main_arg9 (by decide),
    h main_arg10 (by decide), h main_arg11 (by decide), h main_arg12 (by decide), h main_arg13 (by decide), h main_arg14 (by decide)]

theorem inp4 : inp (P4 V) = inp V := inp_eq V _ fun r hr =>
  (k4 V r ((by decide +kernel : ∀ r ∈ argL, r ∉ hostOps0_3_W) r hr)).trans <|
  (k3 V r ((by decide +kernel : ∀ r ∈ argL, r ∉ hostOps0_2_W) r hr)).trans <|
  (k2 V r ((by decide +kernel : ∀ r ∈ argL, r ∉ hostOps0_1_W) r hr)).trans <|
  k1 V r ((by decide +kernel : ∀ r ∈ argL, r ∉ hostOps0_W) r hr)

theorem inp6 : inp (P6 V) = inp V := (inp_eq (P4 V) _ fun r hr =>
  (k6 V r ((by decide +kernel : ∀ r ∈ argL, r ∉ hostOps0_5_W) r hr)).trans <|
  (k5 V r ((by decide +kernel : ∀ r ∈ argL, r ∉ hostOps0_4_W) r hr))).trans (inp4 V)

/-! ## The attention -/

theorem sge_iff (t s : Fin 2048) :
    Scalar.select (IntOp.cmpi CmpIPredicate.sge (IntOp.addi (BitVec.ofNat 32 t.val) 0#32) (BitVec.ofNat 32 s.val)) (0#1) (1#1) = if t < s then 1#1 else 0#1 := by
  have ht := t.isLt
  have hs := s.isLt
  have e0 : IntOp.addi (BitVec.ofNat 32 t.val) 0#32 = BitVec.ofNat 32 t.val := BitVec.add_zero _
  have e1 : (BitVec.ofNat 32 t.val).toInt = (t.val : ℤ) := by
    rw [BitVec.toInt_eq_toNat_of_lt (by rw [BitVec.toNat_ofNat]; omega), BitVec.toNat_ofNat]; omega
  have e2 : (BitVec.ofNat 32 s.val).toInt = (s.val : ℤ) := by
    rw [BitVec.toInt_eq_toNat_of_lt (by rw [BitVec.toNat_ofNat]; omega), BitVec.toNat_ofNat]; omega
  rw [e0]
  by_cases h : t < s
  · have h' : t.val < s.val := h
    have h'' : ¬ s.val ≤ t.val := by omega
    simp [IntOp.cmpi, BitVec.sle, e1, e2, h, h', h'', Scalar.select]
  · have h' : ¬ t.val < s.val := h
    have h'' : s.val ≤ t.val := by omega
    simp [IntOp.cmpi, BitVec.sle, e1, e2, h, h', h'', Scalar.select]

theorem v17_at (b : Fin 2) (h : Fin 16) (t s : Fin 2048) :
    g_v17 (P4 V) (ix4 b h t s) = score ((inp V).q b h) ((inp V).k b h) t s := by
  refine (s3_where (P3 V) b h t s).trans ?_
  have e16 : (P3 V (Proc.devRef .tc main_v16) : IVec S2048x2048 1) (ix2 t s) = if t < s then 1#1 else 0#1 := by
    refine (congrFun (k3 V main_v16 (by decide +kernel)) _).trans ((s1_mask (P1 V) t s).trans ?_)
    rw [show (P1 V (Proc.devRef .tc main_v15) : IVec S2048x2048 1) (ix2 t s) = 1#1 from s0_one V t s]
    exact sge_iff t s
  have ec : g_cst_1 (P3 V) ix0 = ⊥ := (s2_cst (P2 V)).trans ofBits_ninf
  have e14 : g_v14 (P3 V) (ix4 b h t s) = (∑ d : Fin 64, (inp V).q b h t d * (inp V).k b h s d) * Ideal.ofBits .f32 0x3E000000#32 :=
    (congrFun ((k3 V main_v14 (by decide +kernel)).trans (k2 V main_v14 (by decide +kernel))) _).trans (s0_scores V b h t s)
  rw [e16, ec, e14]
  unfold score
  split <;> simp [Scalar.select]

theorem v11_at (b : Fin 2) (h : Fin 16) (t : Fin 2048) (d : Fin 64) : g_v11 (P4 V) (ix4 b h t d) = (inp V).v b h t d :=
  (congrFun ((k4 V main_v11 (by decide +kernel)).trans ((k3 V main_v11 (by decide +kernel)).trans (k2 V main_v11 (by decide +kernel)))) _).trans
    (s0_v V b h t d)

theorem v31_at (hI : (inp V).Good) (b : Fin 2) (t : Fin 2048) (n : Fin 1024) :
    g_v31 (P5 V) (ix3 b t n) = (inp V).seqE b ⟨n.val / 64, by have := n.isLt; omega⟩ t ⟨n.val % 64, Nat.mod_lt _ (by decide)⟩ := by
  refine (s4_seq (P4 V) b t n).trans ?_
  generalize (⟨n.val / 64, by have := n.isLt; omega⟩ : Fin 16) = h
  generalize (⟨n.val % 64, Nat.mod_lt _ (by decide)⟩ : Fin 64) = d
  refine (congrArg₂ (fun (S v : Fin 2048 → EReal) => ∑ s, v s * Ideal.div (Ideal.exp (S s - rowMax (fun s => S s)))
    (∑ s', Ideal.exp (S s' - rowMax (fun s => S s)))) (funext fun s => v17_at V b h t s) (funext fun s => v11_at V b h s d)).trans ?_
  have hS := score_ne_top ((inp V).q b h) ((inp V).k b h) (hI.q b h) (hI.k b h) t
  obtain ⟨ν, hν⟩ := max_fold_real ⊥ (score ((inp V).q b h) ((inp V).k b h) t) bot_ne_top hS (by
    obtain ⟨ρ, e⟩ := score_real ((inp V).q b h) ((inp V).k b h) (hI.q b h) (hI.k b h) t t (lt_irrefl t)
    exact ⟨t, by rw [e]; exact EReal.coe_ne_bot ρ⟩)
  have hM : rowMax (fun s => score ((inp V).q b h) ((inp V).k b h) t s) = (ν : EReal) := by
    unfold rowMax
    rw [ofBits_ninf]
    exact hν
  refine (Finset.sum_congr rfl fun s _ => mul_comm _ _).trans ?_
  exact softmax_row (score ((inp V).q b h) ((inp V).k b h) t) (fun s => (inp V).v b h s d) (fun s => ((inp V).v b h s d).toReal)
    (fun s => hI.v b h s d) hS _ ν hM (score_sum_pos _ _ (hI.q b h) (hI.k b h) t)

/-! ## The lines -/

theorem v111_at (b : Fin 2) (t : Fin 2048) (h : Fin 16) (e : Fin 6) :
    g_v111 (P5 V) (ix4 b t h e) = pvec ((inp V).wa b h t) ((inp V).wb b h t) e := by
  rw [← inp4 V]
  match e with
  | 0 => exact s4_w0 (P4 V) b t h
  | 1 => exact s4_w1 (P4 V) b t h
  | 2 => exact s4_w2 (P4 V) b t h
  | 3 => exact s4_w3 (P4 V) b t h
  | 4 => exact s4_w4 (P4 V) b t h
  | 5 => exact s4_w5 (P4 V) b t h

theorem v193_at (b : Fin 2) (t : Fin 2048) (h : Fin 16) (e : Fin 6) :
    g_v193 (P7 V) (ix4 b t h e) = pvec ((inp V).ra b h t) ((inp V).rb b h t) e := by
  rw [← inp6 V]
  match e with
  | 0 => exact s6_r0 (P6 V) b t h
  | 1 => exact s6_r1 (P6 V) b t h
  | 2 => exact s6_r2 (P6 V) b t h
  | 3 => exact s6_r3 (P6 V) b t h
  | 4 => exact s6_r4 (P6 V) b t h
  | 5 => exact s6_r5 (P6 V) b t h

theorem v116_at (b : Fin 2) (t : Fin 2048) (h : Fin 16) (e : Fin 6) :
    g_v116 (P8 V) (ix4 b t h e) = Ideal.div (pvec ((inp V).wa b h t) ((inp V).wb b h t) e) (nrm ((inp V).wa b h t) ((inp V).wb b h t)) := by
  refine (congrFun (k8 V main_v116 (by decide +kernel)) _).trans ((s6_write (P6 V) b t h e).trans ?_)
  have e1 : g_v111 (P6 V) (ix4 b t h e) = pvec ((inp V).wa b h t) ((inp V).wb b h t) e :=
    (congrFun (k6 V main_v111 (by decide +kernel)) _).trans (v111_at V b t h e)
  have e2 : g_v112 (P6 V) (ix4 b t h 0) = Ideal.sqrt (sq6 ((inp V).wa b h t) ((inp V).wb b h t)) := by
    refine (s5_norm (P5 V) b t h).trans ?_
    rw [sq6_eq]
    exact congrArg Ideal.sqrt (Finset.sum_congr rfl fun e _ => congrArg₂ (· * ·) (v111_at V b t h e) (v111_at V b t h e))
  rw [e1, e2]
  rfl

theorem c0_at (b : Fin 2) (t : Fin 2048) (h : Fin 16) (e : Fin 6) :
    c_0 (P9 V) (ix4 t b h e) = ((inp V).rrw b h t.val (e.castLE (by decide)) : EReal) := by
  refine (s8_read (P8 V) b t h e).trans ?_
  have e1 : g_v193 (P8 V) (ix4 b t h e) = pvec ((inp V).ra b h t) ((inp V).rb b h t) e :=
    (congrFun (k8 V main_v193 (by decide +kernel)) _).trans (v193_at V b t h e)
  have e2 : g_v194 (P8 V) (ix4 b t h 0) = Ideal.sqrt (sq6 ((inp V).ra b h t) ((inp V).rb b h t)) := by
    refine (s7_norm (P7 V) b t h).trans ?_
    rw [sq6_eq]
    exact congrArg Ideal.sqrt (Finset.sum_congr rfl fun e _ => congrArg₂ (· * ·) (v193_at V b t h e) (v193_at V b t h e))
  rw [e1, e2, Inp.rrw_coe]
  exact (rrow_div _ _ e).symm

/-- The matrix that reverses a line, its entries. -/
theorem lit_at (e c : Fin 6) : lit0 (S6x6.rowMajor (ix2 e c))
    = if c.val = 5 - e.val then (if e.val = 1 ∨ e.val = 4 then 0xBF800000#32 else 0x3F800000#32) else 0#32 := by
  fin_cases e <;> fin_cases c <;> rfl

theorem one_bits : Ideal.ofBits .f32 0x3F800000#32 = 1 := by
  simp only [Ideal.ofBits, Ideal.ieee]
  rw [if_neg (by decide), if_neg (by decide), if_neg (by decide)]
  rw [show BitVec.toNat (BitVec.extractLsb' 23 8 (0x3F800000#32)) = 127 from by decide, show BitVec.toNat (BitVec.extractLsb' 0 23 (0x3F800000#32)) = 0 from by decide]
  norm_num

theorem neg_one_bits : Ideal.ofBits .f32 0xBF800000#32 = -1 := by
  simp only [Ideal.ofBits, Ideal.ieee]
  rw [if_neg (by decide), if_neg (by decide), if_pos (by decide)]
  rw [show BitVec.toNat (BitVec.extractLsb' 23 8 (0xBF800000#32)) = 127 from by decide, show BitVec.toNat (BitVec.extractLsb' 0 23 (0xBF800000#32)) = 0 from by decide]
  norm_num

theorem zero_bits : Ideal.ofBits .f32 0#32 = 0 := by
  simp [Ideal.ofBits, Ideal.ieee]

theorem c1_at (b : Fin 2) (t : Fin 2048) (h : Fin 16) (e : Fin 6) :
    c_1 (P9 V) (ix4 t b h e) = ((inp V).wrow b h t.val (e.castLE (by decide)) : EReal) := by
  refine (s8_write (P8 V) b t h e).trans ?_
  have e0 : (∑ e' : Fin 6, g_v116 (P8 V) (ix4 b t h e') * g_cst (P8 V) (ix2 e' e))
      = ∑ e' : Fin 6, Ideal.div (pvec ((inp V).wa b h t) ((inp V).wb b h t) e') (nrm ((inp V).wa b h t) ((inp V).wb b h t)) * g_cst (P8 V) (ix2 e' e) :=
    Finset.sum_congr rfl fun e' _ => congrArg (· * g_cst (P8 V) (ix2 e' e)) (v116_at V b t h e')
  refine Eq.trans e0 ?_
  rw [Inp.wrow_coe]
  refine jrow_div _ _ (fun e c => g_cst (P8 V) (ix2 e c)) (fun e c => ?_) e
  have ec : g_cst (P8 V) (ix2 e c) = Ideal.ofBits .f32 (lit0 (S6x6.rowMajor (ix2 e c))) :=
    (congrFun ((k8 V main_cst (by decide +kernel)).trans <| (k7 V main_cst (by decide +kernel)).trans <| (k6 V main_cst (by decide +kernel)).trans <|
      (k5 V main_cst (by decide +kernel)).trans <| (k4 V main_cst (by decide +kernel)).trans <| (k3 V main_cst (by decide +kernel)).trans <|
      k2 V main_cst (by decide +kernel)) _).trans (congrFun (s0_cst V) _)
  rw [ec, lit_at]
  split_ifs
  · exact neg_one_bits
  · exact one_bits
  · exact zero_bits

/-! ## The whole -/

section
variable (m : (ℓ : Loc nD τ sig) → Buf (Elt Ideal) ℓ) (c : Dev nD)

/-- The contents at launch. -/
abbrev L0 : Valuation τ sig (Elt Ideal) := fun r => m (c, r)

theorem E0_eq : E0 m c = P9 (L0 m c) := by
  simp only [E0, entryContents, afterL_cons, afterL_nil]

variable (hI : (inp (L0 m c)).Good)
include hI

theorem mem_at (b : Fin 2) (h : Fin 16) (t : Fin 2048) : g_v204_5 (RL m c) (ix3 t b h) = (inp (L0 m c)).memE b h t := by
  obtain ⟨a, ha⟩ := hI.a
  have e1 : g_v204_5 (RL m c) (ix3 t b h) = c_5 (atK m 2048 c) (ix3 t b h) :=
    congrFun (cond_keeps (atK m 2048 c) main_v204_5 (by decide)) _
  have e2 := scores_at m c a (fun b h s p => (inp (L0 m c)).wrow b h s (p.castLE (by decide))) (fun b h s p => (inp (L0 m c)).rrw b h s (p.castLE (by decide)))
    (fun h p q => by
      have e : c_2 (E0 m c) (ix3 h p q) = (inp (L0 m c)).A h p q := by
        rw [E0_eq]
        refine (congrFun ((s8_A (P8 (L0 m c))).trans ?_) _)
        exact (k8 _ main_arg14 (by decide +kernel)).trans <| (k7 _ main_arg14 (by decide +kernel)).trans <| (k6 _ main_arg14 (by decide +kernel)).trans <|
          (k5 _ main_arg14 (by decide +kernel)).trans <| (k4 _ main_arg14 (by decide +kernel)).trans <| (k3 _ main_arg14 (by decide +kernel)).trans <|
          (k2 _ main_arg14 (by decide +kernel)).trans <| k1 _ main_arg14 (by decide +kernel)
      rw [e, hI.A, ha])
    (fun t b h e => by rw [E0_eq]; exact c0_at (L0 m c) b t h e)
    (fun t b h e => by rw [E0_eq]; exact c1_at (L0 m c) b t h e)
    (fun b h p q => by rw [E0_eq]; exact s8_M (P8 (L0 m c)) b h p q)
    2048 (le_refl _) t t.isLt b h
  rw [e1, e2]
  unfold Inp.memE
  rw [ha, EReal.toReal_coe]
  exact congrArg _ (Inp.qr_six (a * a) ((inp (L0 m c)).wrow b h) ((inp (L0 m c)).rrw b h t.val) (Inp.wrow_six b h) (Inp.wrow_seven b h) t.val)

theorem inpRL : inp (RL m c) = inp (L0 m c) := inp_eq _ _ fun r hr =>
  (last_keep m c r ((by decide +kernel : ∀ r ∈ argL, r ∉ loopW) r hr)).trans (entry_keep m c r ((by decide +kernel : ∀ r ∈ argL, r ∉ preW) r hr))

theorem seq_at (b : Fin 2) (t : Fin 2048) (n : Fin 1024) : g_v31 (RL m c) (ix3 b t n)
    = (inp (L0 m c)).seqE b ⟨n.val / 64, by have := n.isLt; omega⟩ t ⟨n.val % 64, Nat.mod_lt _ (by decide)⟩ := by
  have e := last_keep m c main_v31 (by decide +kernel)
  have e' : entryContents preI m c (Proc.devRef .tc main_v31) = P5 (L0 m c) (Proc.devRef .tc main_v31) := by
    rw [show entryContents preI m c = P9 (L0 m c) from E0_eq m c]
    exact (k9 _ main_v31 (by decide +kernel)).trans <| (k8 _ main_v31 (by decide +kernel)).trans <| (k7 _ main_v31 (by decide +kernel)).trans <|
      k6 _ main_v31 (by decide +kernel)
  exact (congrFun (e.trans e') _).trans (v31_at (L0 m c) hI b t n)

/-- The reference's result at an index. -/
theorem ref_out (b : Fin 2) (t : Fin 2048) (n : Fin 1024) :
    (RW m c (Proc.devRef .tc main_v240) : FVec Ideal S2x2048x1024 .f32) (ix3 b t n) = (inp (L0 m c)).out b t n := by
  show (after hostOps0_9 (RL m c) (Proc.devRef .tc main_v240) : FVec Ideal S2x2048x1024 .f32) (ix3 b t n) = _
  refine (s9_out (RL m c) b t n).trans ?_
  rw [inpRL m c hI]
  unfold Inp.out Inp.gateE
  refine congrArg₂ (· + ·) (Finset.sum_congr rfl fun k _ => congrArg₂ (· * ·) (congrArg₂ (· + ·) (seq_at m c hI b t k) (congrArg₂ (· * ·) ?_ rfl)) rfl) rfl
  refine congrArg₂ Ideal.div (Finset.sum_congr rfl fun h _ => ?_) rfl
  rw [mem_at m c hI]

end

end Cert.ReferenceIdeal.Value
end
-- ==== Proof.PreFacts.lean ====
/- What the precondition says of the arguments, read element by element. -/
module

public import proofs.«01_k».proof.Proof.Gen.Pre_finite_and_scalar_memory
public import Idealize.ShloMosaic.Lib.ReduceAll
public import Idealize.ShloMosaic.Lib.Pointwise
public import proofs.«01_k».proof.Proof.Common

@[expose] public section

set_option maxRecDepth 16384

noncomputable section

open Idealize.ShloMosaic Idealize.ShloMosaic.TcCoe

namespace Cert.Spec

theorem inf_bits : Ideal.ofBits .f32 0x7F800000#32 = ⊤ := by
  simp only [Ideal.ofBits, Ideal.ieee]
  rw [if_pos (by decide), if_pos (by decide), if_neg (by decide)]

/-- An absolute value below infinity is of a real number. -/
theorem real_of_abs (x : EReal) (h : Ideal.cmp .olt (max x (-x)) (Ideal.ofBits .f32 0x7F800000#32) = 1#1) : ∃ r : ℝ, x = ↑r := by
  rw [inf_bits] at h
  have h' : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  rw [max_lt_iff] at h'
  induction x with
  | bot => exact absurd h'.2 (by simp)
  | coe r => exact ⟨r, rfl⟩
  | top => exact absurd h'.1 (by simp)

theorem eq_of_cmp (x y : EReal) (h : Ideal.cmp .oeq x y = 1#1) : x = y := by
  by_contra hn
  have : Ideal.cmp .oeq x y = 0#1 := by
    show BitVec.ofBool (decide (x = y)) = 0#1
    rw [decide_eq_false hn]; rfl
  rw [this] at h
  exact absurd h (by decide)

theorem and_one {s : Shape} (x y : IVec s 1) (i : s.Idx) (h : andi x y i = 1#1) : x i = 1#1 ∧ y i = 1#1 :=
  IntOp.andi_eq_one.1 h

theorem cmp_six (p q : Fin 6) : IntOp.cmpi .eq (BitVec.ofNat 32 p.val) (BitVec.ofNat 32 q.val) = if p = q then 1#1 else 0#1 := by
  revert p q
  decide

open Cert.Pre_finite_and_scalar_memory in
theorem pre_facts (x0 : FVec Ideal S2x2048x1024 .f32) (x1 : FVec Ideal S1024x3072 .f32) (x2 : FVec Ideal S3072 .f32) (x3 x4 x5 x6 : FVec Ideal S1024x64 .f32)
    (x7 : FVec Ideal S1024x1024 .f32) (x8 : FVec Ideal S1024 .f32) (x9 : FVec Ideal S1024x16 .f32) (x10 x11 : FVec Ideal S16 .f32)
    (x12 : FVec Ideal S1024x1024 .f32) (x13 : FVec Ideal S1024 .f32) (x14 : FVec Ideal S16x6x6 .f32)
    (h : fn (F := Ideal) x0 x1 x2 x3 x4 x5 x6 x7 x8 x9 x10 x11 x12 x13 x14 = fun _ => 1#1) :
    (∀ b t k, ∃ r : ℝ, x0 (ix3 b t k) = (r : EReal)) ∧ (∀ k n, ∃ r : ℝ, x1 (ix2 k n) = (r : EReal)) ∧ (∀ n, ∃ r : ℝ, x2 (ix1 n) = (r : EReal))
      ∧ (∃ r : ℝ, x14 (ix3 0 0 0) = (r : EReal)) ∧ ∀ g p q, (x14 (ix3 g p q) : EReal) = if p = q then x14 (ix3 0 0 0) else 0 := by
  have : Subsingleton S_.Idx := ⟨fun a b => funext fun i => i.elim0⟩
  have h1 := congrFun h (fun i => i.elim0)
  simp only [fn, fn_part1] at h1
  obtain ⟨h2, hA⟩ := and_one _ _ _ h1
  obtain ⟨h3, ha⟩ := and_one _ _ _ h2
  obtain ⟨h4, hb⟩ := and_one _ _ _ h3
  obtain ⟨hx, hw⟩ := and_one _ _ _ h4
  refine ⟨fun b t k => ?_, fun k n => ?_, fun n => ?_, ?_, fun g p q => ?_⟩
  · exact real_of_abs _ (Host.reduce_andi_all _ _ _ _ _ hx (ix3 b t k))
  · exact real_of_abs _ (Host.reduce_andi_all _ _ _ _ _ hw (ix2 k n))
  · exact real_of_abs _ (Host.reduce_andi_all _ _ _ _ _ hb (ix1 n))
  · refine real_of_abs _ (Eq.trans ?_ ha)
    pointwise
    rfl
  · have e := eq_of_cmp _ _ (Host.reduce_andi_all _ _ _ _ _ hA (ix3 g p q))
    refine e.trans ?_
    pointwise
    rw [cmp_six]
    by_cases hpq : p = q
    · rw [if_pos hpq, if_pos hpq]; rfl
    · rw [if_neg hpq, if_neg hpq]; rfl

end Cert.Spec
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_and_scalar_memory
public import proofs.«01_k».proof.Proof.KerRun
public import proofs.«01_k».proof.Proof.RefRun
public import proofs.«01_k».proof.Proof.KerOut
public import proofs.«01_k».proof.Proof.RefTop
public import proofs.«01_k».proof.Proof.PreFacts
public import Idealize.ShloMosaic.Adequacy
public import Idealize.ShloMosaic.Init

@[expose] public section

noncomputable section

namespace Cert.Proof

open Idealize.ShloMosaic Idealize.SL.Sem

section
variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The precondition is what the equality assumes. -/
theorem good (hpre : Cert.Pre_KernelIdeal_finite_and_scalar_memory m) : (Cert.KernelIdeal.Value.I0 m g c).Good := by
  have f := Cert.Spec.pre_facts _ _ _ _ _ _ _ _ _ _ _ _ _ _ _ (hpre c)
  exact ⟨f.1, f.2.1, f.2.2.1, f.2.2.2.1, f.2.2.2.2⟩

/-- Two input records with equal fields are equal. -/
theorem inp_ext (I J : Cert.Spec.Inp) (h0 : I.X = J.X) (h1 : I.Wq = J.Wq) (h2 : I.bq = J.bq) (h3 : I.W1w = J.W1w) (h4 : I.W2w = J.W2w)
    (h5 : I.W1r = J.W1r) (h6 : I.W2r = J.W2r) (h7 : I.Wmv = J.Wmv) (h8 : I.bmv = J.bmv) (h9 : I.Wg = J.Wg) (h10 : I.bg = J.bg)
    (h11 : I.ms = J.ms) (h12 : I.Wo = J.Wo) (h13 : I.bo = J.bo) (h14 : I.A = J.A) : I = J := by
  cases I
  cases J
  cases h0; cases h1; cases h2; cases h3; cases h4; cases h5; cases h6; cases h7; cases h8; cases h9; cases h10; cases h11; cases h12; cases h13; cases h14
  rfl
end

theorem claim : Cert.Claim := ⟨Cert.Kernel.Gen.facts, Cert.KernelIdeal.Gen.facts, Cert.ReferenceIdeal.Gen.facts, Cert.Pre_finite_and_scalar_memory.Gen.facts,
  fun m g _ => Cert.Kernel.Gen.frame m g,
  fun m g _ => Cert.KernelIdeal.Gen.frame m g,
  fun m g _ => Cert.KernelIdeal.Gen.frame m g,
  fun m g _ => (θ_run _ _ _).mono (fun _ h => ⟨fun c => (h.1 c).2, h.2⟩) (Cert.ReferenceIdeal.Value.ref_run m g),
  fun m g _ => (θ_run _ _ _).mono (fun _ h => ⟨fun c => (h.1 c).2, h.2⟩) (Cert.ReferenceIdeal.Value.ref_run m g),
  IdealRules.named_const.statement Cert.KernelIdeal.κ "mask" .f32 0xF149F2CA#32 ⊥ rfl,
  fun m g m' g' hpre hargs => by
    have val : ∀ c, Cert.ReferenceIdeal.Value.RW m' c (Proc.devRef .tc Cert.ReferenceIdeal.main_v240)
        = Cert.KernelIdeal.Gen.W11 m g c (Proc.devRef .tc Cert.KernelIdeal.main_v51) := by
      intro c
      have hI := good m g c hpre
      obtain ⟨e0, e1, e2, e3, e4, e5, e6, e7, e8, e9, e10, e11, e12, e13, e14⟩ := hargs c
      have eI : Cert.ReferenceIdeal.Value.inp (Cert.ReferenceIdeal.Value.L0 m' c) = Cert.KernelIdeal.Value.I0 m g c :=
        inp_ext _ _ (funext fun b => funext fun t => funext fun k => congrFun e0 (ix3 b t k))
          (funext fun k => funext fun n => congrFun e1 (ix2 k n)) (funext fun n => congrFun e2 (ix1 n))
          (funext fun k => funext fun n => congrFun e3 (ix2 k n)) (funext fun k => funext fun n => congrFun e4 (ix2 k n))
          (funext fun k => funext fun n => congrFun e5 (ix2 k n)) (funext fun k => funext fun n => congrFun e6 (ix2 k n))
          (funext fun k => funext fun n => congrFun e7 (ix2 k n)) (funext fun n => congrFun e8 (ix1 n))
          (funext fun k => funext fun n => congrFun e9 (ix2 k n)) (funext fun n => congrFun e10 (ix1 n))
          (funext fun n => congrFun e11 (ix1 n)) (funext fun k => funext fun n => congrFun e12 (ix2 k n))
          (funext fun n => congrFun e13 (ix1 n)) (funext fun h => funext fun p => funext fun q => congrFun e14 (ix3 h p q))
      refine funext fun (i : Cert.KernelIdeal.S2x2048x1024.Idx) => ?_
      rw [eq_ix3 i]
      refine (Cert.ReferenceIdeal.Value.ref_out m' c (eI ▸ hI) (i 0) (i 1) (i 2)).trans ?_
      rw [eI]
      exact (Cert.KernelIdeal.Value.ker_out m g c hI (i 0) (i 1) (i 2)).symm
    exact ⟨fun c => Cert.KernelIdeal.Gen.W11 m g c (Proc.devRef .tc Cert.KernelIdeal.main_v51),
      (θ_run _ _ _).mono (fun _ h c => h.1 c) (Cert.KernelIdeal.Gen.ker_run m g),
      (θ_run _ _ _).mono (fun _ h c => ⟨(h.1 c).1.trans (val c), (h.1 c).2⟩) (Cert.ReferenceIdeal.Value.ref_run m' g')⟩⟩

end Cert.Proof

end
